-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_drawn_Kernel [hPre_drawn_Kernel : Cert.Pre_drawn_Kernel.Facts] (m : (ℓ : Loc Cert.Kernel.nD Cert.Kernel.τ Cert.Kernel.sig) → Buf (Elt Bits) ℓ) : Prop :=
  ∀ c : Dev Cert.Kernel.nD,
    (Cert.Pre_drawn_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_drawn_Kernel [hPre_drawn_Kernel : Cert.Pre_drawn_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_drawn_ReferenceIdeal [hPre_drawn_ReferenceIdeal : Cert.Pre_drawn_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_drawn_Kernel [hKernel : Cert.Kernel.Facts] [hPre_drawn_Kernel : Cert.Pre_drawn_Kernel.Facts] : Prop :=
  ∀ (m : (ℓ : Loc Cert.Kernel.nD Cert.Kernel.τ Cert.Kernel.sig) → Buf (Elt Bits) ℓ) (g : Dev Cert.Kernel.nD → PrngReg), Pre_Kernel_drawn_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn_Kernel [hKernelIdeal : Cert.KernelIdeal.Facts] [hPre_drawn_Kernel : Cert.Pre_drawn_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn_ReferenceIdeal [hReferenceIdeal : Cert.ReferenceIdeal.Facts] [hPre_drawn_ReferenceIdeal : Cert.Pre_drawn_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_drawn_Kernel [hKernelIdeal : Cert.KernelIdeal.Facts] [hReferenceIdeal : Cert.ReferenceIdeal.Facts] [hPre_drawn_Kernel : Cert.Pre_drawn_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_Kernel m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_drawn_Kernel : Cert.Pre_drawn_Kernel.Facts) (hPre_balanced_ReferenceIdeal : Cert.Pre_balanced_ReferenceIdeal.Facts) (hPre_drawn_ReferenceIdeal : Cert.Pre_drawn_ReferenceIdeal.Facts),
    quiescent_Kernel (hKernel := hKernel) (hPre_balanced_Kernel := hPre_balanced_Kernel)
    ∧ quiescent_Kernel_pre_drawn_Kernel (hKernel := hKernel) (hPre_drawn_Kernel := hPre_drawn_Kernel)
    ∧ quiescent_KernelIdeal (hKernelIdeal := hKernelIdeal) (hPre_balanced_Kernel := hPre_balanced_Kernel)
    ∧ quiescent_KernelIdeal_pre_drawn_Kernel (hKernelIdeal := hKernelIdeal) (hPre_drawn_Kernel := hPre_drawn_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ quiescent_ReferenceIdeal_pre_drawn_ReferenceIdeal (hReferenceIdeal := hReferenceIdeal) (hPre_drawn_ReferenceIdeal := hPre_drawn_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
    ∧ algebraic_KernelIdeal_ReferenceIdeal_pre_drawn_Kernel (hKernelIdeal := hKernelIdeal) (hReferenceIdeal := hReferenceIdeal) (hPre_drawn_Kernel := hPre_drawn_Kernel)
-- ==== Pre_balanced_Kernel.lean ====
abbrev S1024 : Shape := ⟨1, ![1024]⟩
abbrev S8192x1024 : Shape := ⟨2, ![8192, 1024]⟩
abbrev S_ : Shape := ⟨0, ![]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  reducesTo_S1024x8_S8_d0 : S1024x8.ReducesTo [0] S8
  h_S_ : 0 < S_.numel
  reducesTo_S1024_S_d0 : S1024.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v15 : IVec S_ 1) (main_v17 : IVec S8 1) : IVec S_ 1 :=
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v15 main_v18
  main_v19

def fn {F : FTy → Type} [FloatOps F] (main_arg0 : IVec S1024 32) (main_arg1 : FVec F S8192x1024 .f32) : IVec S_ 1 :=
  let main_c : IVec S_ 32 := constantI S_ 32 13#32
  let main_v0 : IVec S1024 32 := broadcastInDim S1024 ![] bcast_S_S1024 main_c
  let main_v1 : IVec S1024 32 := Host.shrsi main_arg0 main_v0
  let main_v2 : IVec S1024x1 32 := broadcastInDim S1024x1 ![0] bcast_S1024_S1024x1_0 main_v1
  let main_v3 : IVec S8 32 := iotaInDim S8 32 0
  let main_v4 : IVec S1x8 32 := broadcastInDim S1x8 ![1] bcast_S8_S1x8_1 main_v3
  let main_v5 : IVec S1024x8 32 := broadcastInDim S1024x8 ![0, 1] bcast_S1024x1_S1024x8_0_1 main_v2
  let main_v6 : IVec S1024x8 32 := broadcastInDim S1024x8 ![0, 1] bcast_S1x8_S1024x8_0_1 main_v4
  let main_v7 : IVec S1024x8 1 := cmpi .eq main_v5 main_v6
  let main_v8 : IVec S1024x8 32 := (extui 32 · natLt_1_32) main_v7
  let main_c_0 : IVec S_ 32 := constantI S_ 32 0#32
  let main_v9 : IVec S8 32 := (fun x v => Host.reduce IntOp.addi x v reducesTo_S1024x8_S8_d0 h_S_) main_v8 main_c_0
  let main_c_1 : IVec S_ 32 := constantI S_ 32 0#32
  let main_v10 : IVec S1024 32 := broadcastInDim S1024 ![] bcast_S_S1024 main_c_1
  let main_v11 : IVec S1024 1 := cmpi .sge main_arg0 main_v10
  let main_c_2 : IVec S_ 32 := constantI S_ 32 65536#32
  let main_v12 : IVec S1024 32 := broadcastInDim S1024 ![] bcast_S_S1024 main_c_2
  let main_v13 : IVec S1024 1 := cmpi .slt main_arg0 main_v12
  let main_v14 : IVec S1024 1 := andi main_v11 main_v13
  let main_c_3 : IVec S_ 1 := constantI S_ 1 1#1
  let main_v15 : IVec S_ 1 := (fun x v => Host.reduce IntOp.andi x v reducesTo_S1024_S_d0 h_S_) main_v14 main_c_3
  let main_c_4 : IVec S_ 32 := constantI S_ 32 128#32
  let main_v16 : IVec S8 32 := broadcastInDim S8 ![] bcast_S_S8 main_c_4
  let main_v17 : IVec S8 1 := cmpi .eq main_v9 main_v16
  fn_part1 (F := F) main_v15 main_v17
-- ==== Pre_balanced_ReferenceIdeal.lean ====
abbrev S1024 : Shape := ⟨1, ![1024]⟩
abbrev S65536x1024 : Shape := ⟨2, ![65536, 1024]⟩
abbrev S_ : Shape := ⟨0, ![]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  reducesTo_S1024x8_S8_d0 : S1024x8.ReducesTo [0] S8
  h_S_ : 0 < S_.numel
  reducesTo_S1024_S_d0 : S1024.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v15 : IVec S_ 1) (main_v17 : IVec S8 1) : IVec S_ 1 :=
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v15 main_v18
  main_v19

def fn {F : FTy → Type} [FloatOps F] (main_arg0 : IVec S1024 32) (main_arg1 : FVec F S65536x1024 .f32) : IVec S_ 1 :=
  let main_c : IVec S_ 32 := constantI S_ 32 13#32
  let main_v0 : IVec S1024 32 := broadcastInDim S1024 ![] bcast_S_S1024 main_c
  let main_v1 : IVec S1024 32 := Host.shrsi main_arg0 main_v0
  let main_v2 : IVec S1024x1 32 := broadcastInDim S1024x1 ![0] bcast_S1024_S1024x1_0 main_v1
  let main_v3 : IVec S8 32 := iotaInDim S8 32 0
  let main_v4 : IVec S1x8 32 := broadcastInDim S1x8 ![1] bcast_S8_S1x8_1 main_v3
  let main_v5 : IVec S1024x8 32 := broadcastInDim S1024x8 ![0, 1] bcast_S1024x1_S1024x8_0_1 main_v2
  let main_v6 : IVec S1024x8 32 := broadcastInDim S1024x8 ![0, 1] bcast_S1x8_S1024x8_0_1 main_v4
  let main_v7 : IVec S1024x8 1 := cmpi .eq main_v5 main_v6
  let main_v8 : IVec S1024x8 32 := (extui 32 · natLt_1_32) main_v7
  let main_c_0 : IVec S_ 32 := constantI S_ 32 0#32
  let main_v9 : IVec S8 32 := (fun x v => Host.reduce IntOp.addi x v reducesTo_S1024x8_S8_d0 h_S_) main_v8 main_c_0
  let main_c_1 : IVec S_ 32 := constantI S_ 32 0#32
  let main_v10 : IVec S1024 32 := broadcastInDim S1024 ![] bcast_S_S1024 main_c_1
  let main_v11 : IVec S1024 1 := cmpi .sge main_arg0 main_v10
  let main_c_2 : IVec S_ 32 := constantI S_ 32 65536#32
  let main_v12 : IVec S1024 32 := broadcastInDim S1024 ![] bcast_S_S1024 main_c_2
  let main_v13 : IVec S1024 1 := cmpi .slt main_arg0 main_v12
  let main_v14 : IVec S1024 1 := andi main_v11 main_v13
  let main_c_3 : IVec S_ 1 := constantI S_ 1 1#1
  let main_v15 : IVec S_ 1 := (fun x v => Host.reduce IntOp.andi x v reducesTo_S1024_S_d0 h_S_) main_v14 main_c_3
  let main_c_4 : IVec S_ 32 := constantI S_ 32 128#32
  let main_v16 : IVec S8 32 := broadcastInDim S8 ![] bcast_S_S8 main_c_4
  let main_v17 : IVec S8 1 := cmpi .eq main_v9 main_v16
  fn_part1 (F := F) main_v15 main_v17
-- ==== Pre_drawn_Kernel.lean ====
abbrev S1024 : Shape := ⟨1, ![1024]⟩
abbrev S8192x1024 : Shape := ⟨2, ![8192, 1024]⟩
abbrev S8 : Shape := ⟨1, ![8]⟩
abbrev S_ : Shape := ⟨0, ![]⟩
abbrev S1024x1 : Shape := ⟨2, ![1024, 1]⟩
abbrev S1x8 : Shape := ⟨2, ![1, 8]⟩
abbrev S1024x8 : Shape := ⟨2, ![1024, 8]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  reducesTo_S1024x8_S8_d0 : S1024x8.ReducesTo [0] S8
  h_S_ : 0 < S_.numel
  reducesTo_S1024_S_d0 : S1024.ReducesTo [0] S_
  reducesTo_S8_S_d0 : S8.ReducesTo [0] S_

variable [Facts]

noncomputable abbrev lit0 : Fin 8 → BitVec 32 := fun
  | 0 => 135#32 | 1 => 133#32 | 2 => 122#32 | 3 => 133#32 | 4 => 123#32 | 5 => 132#32 | 6 => 130#32 | 7 => 116#32
  | _ => 0#32

def fn_part1 {F : FTy → Type} [FloatOps F] (main_v15 : IVec S_ 1) (main_v16 : IVec S8 1) (main_c_5 : IVec S_ 1) : IVec S_ 1 :=
  let main_v17 : IVec S_ 1 := (fun x v => Host.reduce IntOp.andi x v reducesTo_S8_S_d0 h_S_) main_v16 main_c_5
  let main_v18 : IVec S_ 1 := andi main_v15 main_v17
  main_v18

def fn {F : FTy → Type} [FloatOps F] (main_arg0 : IVec S1024 32) (main_arg1 : FVec F S8192x1024 .f32) : IVec S_ 1 :=
  let main_c : IVec S8 32 := fun i => lit0 (S8.rowMajor i)
  let main_c_0 : IVec S_ 32 := constantI S_ 32 13#32
  let main_v0 : IVec S1024 32 := broadcastInDim S1024 ![] bcast_S_S1024 main_c_0
  let main_v1 : IVec S1024 32 := Host.shrsi main_arg0 main_v0
  let main_v2 : IVec S1024x1 32 := broadcastInDim S1024x1 ![0] bcast_S1024_S1024x1_0 main_v1
  let main_v3 : IVec S8 32 := iotaInDim S8 32 0
  let main_v4 : IVec S1x8 32 := broadcastInDim S1x8 ![1] bcast_S8_S1x8_1 main_v3
  let main_v5 : IVec S1024x8 32 := broadcastInDim S1024x8 ![0, 1] bcast_S1024x1_S1024x8_0_1 main_v2
  let main_v6 : IVec S1024x8 32 := broadcastInDim S1024x8 ![0, 1] bcast_S1x8_S1024x8_0_1 main_v4
  let main_v7 : IVec S1024x8 1 := cmpi .eq main_v5 main_v6
  let main_v8 : IVec S1024x8 32 := (extui 32 · natLt_1_32) main_v7
  let main_c_1 : IVec S_ 32 := constantI S_ 32 0#32
  let main_v9 : IVec S8 32 := (fun x v => Host.reduce IntOp.addi x v reducesTo_S1024x8_S8_d0 h_S_) main_v8 main_c_1
  let main_c_2 : IVec S_ 32 := constantI S_ 32 0#32
  let main_v10 : IVec S1024 32 := broadcastInDim S1024 ![] bcast_S_S1024 main_c_2
  let main_v11 : IVec S1024 1 := cmpi .sge main_arg0 main_v10
  let main_c_3 : IVec S_ 32 := constantI S_ 32 65536#32
  let main_v12 : IVec S1024 32 := broadcastInDim S1024 ![] bcast_S_S1024 main_c_3
  let main_v13 : IVec S1024 1 := cmpi .slt main_arg0 main_v12
  let main_v14 : IVec S1024 1 := andi main_v11 main_v13
  let main_c_4 : IVec S_ 1 := constantI S_ 1 1#1
  let main_v15 : IVec S_ 1 := (fun x v => Host.reduce IntOp.andi x v reducesTo_S1024_S_d0 h_S_) main_v14 main_c_4
  let main_v16 : IVec S8 1 := cmpi .eq main_v9 main_c
  let main_c_5 : IVec S_ 1 := constantI S_ 1 1#1
  fn_part1 (F := F) main_v15 main_v16 main_c_5
-- ==== Pre_drawn_ReferenceIdeal.lean ====
abbrev S1024 : Shape := ⟨1, ![1024]⟩
abbrev S65536x1024 : Shape := ⟨2, ![65536, 1024]⟩
abbrev S8 : Shape := ⟨1, ![8]⟩
abbrev S_ : Shape := ⟨0, ![]⟩
abbrev S1024x1 : Shape := ⟨2, ![1024, 1]⟩
abbrev S1x8 : Shape := ⟨2, ![1, 8]⟩
abbrev S1024x8 : Shape := ⟨2, ![1024, 8]⟩

class Facts : Prop where
  bcast_S_S1024 : S_.BroadcastsInDim S1024 (![] : Fin 0 → Fin S1024.rank)
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  natLt_1_32 : 1 < 32
  reducesTo_S1024x8_S8_d0 : S1024x8.ReducesTo [0] S8
  h_S_ : 0 < S_.numel
  reducesTo_S1024_S_d0 : S1024.ReducesTo [0] S_
  reducesTo_S8_S_d0 : S8.ReducesTo [0] S_

variable [Facts]

noncomputable abbrev lit0 : Fin 8 → BitVec 32 := fun
  | 0 => 135#32 | 1 => 133#32 | 2 => 122#32 | 3 => 133#32 | 4 => 123#32 | 5 => 132#32 | 6 => 130#32 | 7 => 116#32
  | _ => 0#32

def fn_part1 {F : FTy → Type} [FloatOps F] (main_v15 : IVec S_ 1) (main_v16 : IVec S8 1) (main_c_5 : IVec S_ 1) : IVec S_ 1 :=
  let main_v17 : IVec S_ 1 := (fun x v => Host.reduce IntOp.andi x v reducesTo_S8_S_d0 h_S_) main_v16 main_c_5
  let main_v18 : IVec S_ 1 := andi main_v15 main_v17
  main_v18

def fn {F : FTy → Type} [FloatOps F] (main_arg0 : IVec S1024 32) (main_arg1 : FVec F S65536x1024 .f32) : IVec S_ 1 :=
  let main_c : IVec S8 32 := fun i => lit0 (S8.rowMajor i)
  let main_c_0 : IVec S_ 32 := constantI S_ 32 13#32
  let main_v0 : IVec S1024 32 := broadcastInDim S1024 ![] bcast_S_S1024 main_c_0
  let main_v1 : IVec S1024 32 := Host.shrsi main_arg0 main_v0
  let main_v2 : IVec S1024x1 32 := broadcastInDim S1024x1 ![0] bcast_S1024_S1024x1_0 main_v1
  let main_v3 : IVec S8 32 := iotaInDim S8 32 0
  let main_v4 : IVec S1x8 32 := broadcastInDim S1x8 ![1] bcast_S8_S1x8_1 main_v3
  let main_v5 : IVec S1024x8 32 := broadcastInDim S1024x8 ![0, 1] bcast_S1024x1_S1024x8_0_1 main_v2
  let main_v6 : IVec S1024x8 32 := broadcastInDim S1024x8 ![0, 1] bcast_S1x8_S1024x8_0_1 main_v4
  let main_v7 : IVec S1024x8 1 := cmpi .eq main_v5 main_v6
  let main_v8 : IVec S1024x8 32 := (extui 32 · natLt_1_32) main_v7
  let main_c_1 : IVec S_ 32 := constantI S_ 32 0#32
  let main_v9 : IVec S8 32 := (fun x v => Host.reduce IntOp.addi x v reducesTo_S1024x8_S8_d0 h_S_) main_v8 main_c_1
  let main_c_2 : IVec S_ 32 := constantI S_ 32 0#32
  let main_v10 : IVec S1024 32 := broadcastInDim S1024 ![] bcast_S_S1024 main_c_2
  let main_v11 : IVec S1024 1 := cmpi .sge main_arg0 main_v10
  let main_c_3 : IVec S_ 32 := constantI S_ 32 65536#32
  let main_v12 : IVec S1024 32 := broadcastInDim S1024 ![] bcast_S_S1024 main_c_3
  let main_v13 : IVec S1024 1 := cmpi .slt main_arg0 main_v12
  let main_v14 : IVec S1024 1 := andi main_v11 main_v13
  let main_c_4 : IVec S_ 1 := constantI S_ 1 1#1
  let main_v15 : IVec S_ 1 := (fun x v => Host.reduce IntOp.andi x v reducesTo_S1024_S_d0 h_S_) main_v14 main_c_4
  let main_v16 : IVec S8 1 := cmpi .eq main_v9 main_c
  let main_c_5 : IVec S_ 1 := constantI S_ 1 1#1
  fn_part1 (F := F) main_v15 main_v16 main_c_5
-- ==== Kernel.lean ====
abbrev S1024 : Shape := ⟨1, ![1024]⟩
abbrev S8192x1024 : Shape := ⟨2, ![8192, 1024]⟩
abbrev S65536x128 : Shape := ⟨2, ![65536, 128]⟩
abbrev S8192x128 : Shape := ⟨2, ![8192, 128]⟩
abbrev S24576x128 : Shape := ⟨2, ![24576, 128]⟩
abbrev S8 : Shape := ⟨1, ![8]⟩
abbrev S_ : Shape := ⟨0, ![]⟩
abbrev S1 : Shape := ⟨1, ![1]⟩
abbrev S8x128 : Shape := ⟨2, ![8, 128]⟩
abbrev S256x128 : Shape := ⟨2, ![256, 128]⟩
abbrev S1792x128 : Shape := ⟨2, ![1792, 128]⟩
abbrev S1024x1024 : Shape := ⟨2, ![1024, 1024]⟩

abbrev nBuf : Space → Nat
  | .hbm => 5
  | .vmem => 4
  | .smem => 3
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S65536x128, .f32⟩
  | .hbm, ⟨3, _⟩ => ⟨S8192x128, .bf16⟩
  | .hbm, ⟨4, _⟩ => ⟨S1024x1024, .bf16⟩
  | .local _ .vmem, ⟨0, _⟩ => ⟨S8192x128, .bf16⟩
  | .local _ .vmem, ⟨1, _⟩ => ⟨S8192x128, .f32⟩
  | .local _ .vmem, ⟨2, _⟩ => ⟨S8192x128, .bf16⟩
  | .local _ .vmem, ⟨3, _⟩ => ⟨S24576x128, .bf16⟩
  | .local _ .smem, ⟨0, _⟩ => ⟨S1024, .i32⟩
  | .local _ .smem, ⟨1, _⟩ => ⟨S8, .i32⟩
  | .local _ .smem, ⟨2, _⟩ => ⟨S8, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

@[reducible] def k0_t1_loop : Scf.Loop 32 :=
  let c0_i32_24 : BitVec 32 := 0#32
  let c1024_i32 : BitVec 32 := 1024#32
  let v20 : BitVec 32 := Scalar.addi c0_i32_24 c1024_i32
  let c1_i32_25 : BitVec 32 := 1#32
  ⟨c0_i32_24, v20, c1_i32_25⟩
def k0_off1 (k0_t1 : Fin k0_t1_loop.trips) : Fin 1 → Nat :=
  let c0_i32_24 : BitVec 32 := 0#32
  let c1_i32_25 : BitVec 32 := 1#32
  let arg11 : BitVec 32 := Scf.iv c0_i32_24 c1_i32_25 k0_t1
  let v98 : Index := Scalar.indexCast arg11
  ![v98.toNat]
def k0_off2 (v99 : BitVec 32) : Fin 1 → Nat :=
  let c13_i32 : BitVec 32 := 13#32
  let v100 : BitVec 32 := Scalar.shrui v99 c13_i32
  let v101 : Index := Scalar.indexCast v100
  ![v101.toNat]

def k0_off3 (k0_t1 : Fin k0_t1_loop.trips) : Fin 1 → Nat :=
  let c0_i32_24 : BitVec 32 := 0#32
  let c1_i32_25 : BitVec 32 := 1#32
  let arg11 : BitVec 32 := Scf.iv c0_i32_24 c1_i32_25 k0_t1
  let v111 : Index := Scalar.indexCast arg11
  ![v111.toNat]
def k0_off4 (arg12 : BitVec 32) : Fin 2 → Nat :=
  let c8_i32_101 : BitVec 32 := 8#32
  let v115 : BitVec 32 := Scalar.muli arg12 c8_i32_101
  let c0_i32_102 : BitVec 32 := 0#32
  ![v115.toNat, 0]
def k0_cond1 (d0 : Dev nD) (v99 : BitVec 32) : BitVec 1 :=
  let c13_i32 : BitVec 32 := 13#32
  let v100 : BitVec 32 := Scalar.shrui v99 c13_i32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v106 : BitVec 1 := Scalar.cmpi .eq v100 v2
  let v107 : BitVec 32 := Scalar.extui v106
  let c0_i32_99 : BitVec 32 := 0#32
  let v108 : BitVec 1 := Scalar.cmpi .ne v107 c0_i32_99
  v108

def k0_chk1 (d0 : Dev nD) (arg12 : BitVec 32) (v99 : BitVec 32) : Prop :=
  (∀ a, (k0_off2 v99) a + S1.size a ≤ S8.size a) ∧
  (∀ (k0_h1 : k0_cond1 d0 v99 = 1#1), ∀ a, (k0_off4 arg12) a + S8x128.size a ≤ S8192x128.size a)
theorem k0_off2_inb : ∀ (d0 : Dev nD) (arg12 : BitVec 32) (v99 : BitVec 32) (k0_hw1 : k0_chk1 d0 arg12 v99), ∀ a, (k0_off2 v99) a + S1.size a ≤ S8.size a := fun d0 arg12 v99 k0_hw1 => k0_hw1.1
theorem k0_off4_inb : ∀ (d0 : Dev nD) (arg12 : BitVec 32) (v99 : BitVec 32) (k0_hw1 : k0_chk1 d0 arg12 v99), ∀ (k0_h1 : k0_cond1 d0 v99 = 1#1), ∀ a, (k0_off4 arg12) a + S8x128.size a ≤ S8192x128.size a := fun d0 arg12 v99 k0_hw1 k0_h1 => k0_hw1.2 k0_h1

def k0_off5 (d0 : Dev nD) (v112 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8192_i32 : BitVec 32 := 8192#32
  let v3 : BitVec 32 := Scalar.muli v2 c8192_i32
  let v113 : BitVec 32 := Scalar.subi v112 v3
  let c8_i32_100 : BitVec 32 := 8#32
  let v114 : BitVec 32 := Scalar.muli v113 c8_i32_100
  let c0_i32_103 : BitVec 32 := 0#32
  ![v114.toNat, 0]

def k0_chk2 (d0 : Dev nD) (v99 : BitVec 32) (v112 : BitVec 32) : Prop :=
  (∀ (k0_h1 : k0_cond1 d0 v99 = 1#1), ∀ a, (k0_off5 d0 v112) a + S8x128.size a ≤ S65536x128.size a)
theorem k0_off5_inb : ∀ (d0 : Dev nD) (v99 : BitVec 32) (v112 : BitVec 32) (k0_hw2 : k0_chk2 d0 v99 v112), ∀ (k0_h1 : k0_cond1 d0 v99 = 1#1), ∀ a, (k0_off5 d0 v112) a + S8x128.size a ≤ S65536x128.size a := fun d0 v99 v112 k0_hw2 k0_h1 => k0_hw2 k0_h1

@[reducible] def k0_t2_loop : Scf.Loop 32 :=
  let c0_i32_36 : BitVec 32 := 0#32
  let c8_i32_37 : BitVec 32 := 8#32
  let v41 : BitVec 32 := Scalar.addi c0_i32_36 c8_i32_37
  let c1_i32_38 : BitVec 32 := 1#32
  ⟨c0_i32_36, v41, c1_i32_38⟩
def k0_off6 (k0_t2 : Fin k0_t2_loop.trips) : Fin 1 → Nat :=
  let c0_i32_36 : BitVec 32 := 0#32
  let c1_i32_38 : BitVec 32 := 1#32
  let arg11 : BitVec 32 := Scf.iv c0_i32_36 c1_i32_38 k0_t2
  let v98 : Index := Scalar.indexCast arg11
  ![v98.toNat]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v44 : BitVec 32 := Scalar.addi v2 c1_i32_40
  let c8_i32_41 : BitVec 32 := 8#32
  let v45 : BitVec 32 := Scalar.remsi v44 c8_i32_41
  let c1_i32_43 : BitVec 32 := 1#32
  let v46 : BitVec 32 := Scalar.muli v45 c1_i32_43
  let v47 : BitVec 32 := Scalar.addi c0_i32_44 v46
  v47.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v48 : BitVec 32 := Scalar.addi v2 c2_i32
  let c8_i32_45 : BitVec 32 := 8#32
  let v49 : BitVec 32 := Scalar.remsi v48 c8_i32_45
  let c1_i32_47 : BitVec 32 := 1#32
  let v50 : BitVec 32 := Scalar.muli v49 c1_i32_47
  let v51 : BitVec 32 := Scalar.addi c0_i32_48 v50
  v51.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v52 : BitVec 32 := Scalar.addi v2 c3_i32
  let c8_i32_49 : BitVec 32 := 8#32
  let v53 : BitVec 32 := Scalar.remsi v52 c8_i32_49
  let c1_i32_51 : BitVec 32 := 1#32
  let v54 : BitVec 32 := Scalar.muli v53 c1_i32_51
  let v55 : BitVec 32 := Scalar.addi c0_i32_52 v54
  v55.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v56 : BitVec 32 := Scalar.addi v2 c4_i32
  let c8_i32_53 : BitVec 32 := 8#32
  let v57 : BitVec 32 := Scalar.remsi v56 c8_i32_53
  let c1_i32_55 : BitVec 32 := 1#32
  let v58 : BitVec 32 := Scalar.muli v57 c1_i32_55
  let v59 : BitVec 32 := Scalar.addi c0_i32_56 v58
  v59.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v60 : BitVec 32 := Scalar.addi v2 c5_i32
  let c8_i32_57 : BitVec 32 := 8#32
  let v61 : BitVec 32 := Scalar.remsi v60 c8_i32_57
  let c1_i32_59 : BitVec 32 := 1#32
  let v62 : BitVec 32 := Scalar.muli v61 c1_i32_59
  let v63 : BitVec 32 := Scalar.addi c0_i32_60 v62
  v63.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v64 : BitVec 32 := Scalar.addi v2 c6_i32
  let c8_i32_61 : BitVec 32 := 8#32
  let v65 : BitVec 32 := Scalar.remsi v64 c8_i32_61
  let c1_i32_63 : BitVec 32 := 1#32
  let v66 : BitVec 32 := Scalar.muli v65 c1_i32_63
  let v67 : BitVec 32 := Scalar.addi c0_i32_64 v66
  v67.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v68 : BitVec 32 := Scalar.addi v2 c7_i32
  let c8_i32_65 : BitVec 32 := 8#32
  let v69 : BitVec 32 := Scalar.remsi v68 c8_i32_65
  let c1_i32_67 : BitVec 32 := 1#32
  let v70 : BitVec 32 := Scalar.muli v69 c1_i32_67
  let v71 : BitVec 32 := Scalar.addi c0_i32_68 v70
  v71.toNat
@[reducible] def k0_t3_loop (v21 : BitVec 32) : Scf.Loop 32 :=
  let c0_i32_71 : BitVec 32 := 0#32
  let v72 : BitVec 32 := Scalar.subi v21 c0_i32_71
  let c1_i32_72 : BitVec 32 := 1#32
  let v74 : BitVec 32 := Scalar.divsi v72 c1_i32_72
  let v75 : BitVec 32 := Scalar.muli v74 c1_i32_72
  let v76 : BitVec 32 := Scalar.addi c0_i32_71 v75
  let c1_i32_73 : BitVec 32 := 1#32
  ⟨c0_i32_71, v76, c1_i32_73⟩

@[reducible] def k0_t4_loop (v21 : BitVec 32) : Scf.Loop 32 :=
  let c0_i32_71 : BitVec 32 := 0#32
  let v72 : BitVec 32 := Scalar.subi v21 c0_i32_71
  let c1_i32_72 : BitVec 32 := 1#32
  let v74 : BitVec 32 := Scalar.divsi v72 c1_i32_72
  let v75 : BitVec 32 := Scalar.muli v74 c1_i32_72
  let v76 : BitVec 32 := Scalar.addi c0_i32_71 v75
  let v73 : BitVec 32 := Scalar.addi c0_i32_71 v72
  let c1_i32_74 : BitVec 32 := 1#32
  ⟨v76, v73, c1_i32_74⟩
@[reducible] def k0_t5_loop (v21 : BitVec 32) : Scf.Loop 32 :=
  let c0_i32_80 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v82 : BitVec 32 := Scalar.subi v40 c0_i32_80
  let c1_i32_81 : BitVec 32 := 1#32
  let v84 : BitVec 32 := Scalar.divsi v82 c1_i32_81
  let v85 : BitVec 32 := Scalar.muli v84 c1_i32_81
  let v86 : BitVec 32 := Scalar.addi c0_i32_80 v85
  let c1_i32_82 : BitVec 32 := 1#32
  ⟨c0_i32_80, v86, c1_i32_82⟩
def k0_off7 (d0 : Dev nD) (v21 : BitVec 32) (k0_t5 : Fin (k0_t5_loop v21).trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32 : BitVec 32 := 384#32
  let v100 : BitVec 32 := Scalar.muli v2 c384_i32
  let c0_i32_80 : BitVec 32 := 0#32
  let c1_i32_82 : BitVec 32 := 1#32
  let arg11 : BitVec 32 := Scf.iv c0_i32_80 c1_i32_82 k0_t5
  let c32_i32_100 : BitVec 32 := 32#32
  let v101 : BitVec 32 := Scalar.muli arg11 c32_i32_100
  let v102 : BitVec 32 := Scalar.addi v100 v101
  let c8_i32_101 : BitVec 32 := 8#32
  let v103 : BitVec 32 := Scalar.muli v102 c8_i32_101
  let c0_i32_106 : BitVec 32 := 0#32
  ![v103.toNat, 0]
def k0_off8 (v21 : BitVec 32) (k0_t5 : Fin (k0_t5_loop v21).trips) : Fin 2 → Nat :=
  let c0_i32_80 : BitVec 32 := 0#32
  let c1_i32_82 : BitVec 32 := 1#32
  let arg11 : BitVec 32 := Scf.iv c0_i32_80 c1_i32_82 k0_t5
  let c32_i32_98 : BitVec 32 := 32#32
  let v98 : BitVec 32 := Scalar.muli arg11 c32_i32_98
  let c8_i32_99 : BitVec 32 := 8#32
  let v99 : BitVec 32 := Scalar.muli v98 c8_i32_99
  let c0_i32_107 : BitVec 32 := 0#32
  ![v99.toNat, 0]
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v104 : BitVec 32 := Scalar.addi v2 c1_i32_102
  let c8_i32_103 : BitVec 32 := 8#32
  let v105 : BitVec 32 := Scalar.remsi v104 c8_i32_103
  let c1_i32_104 : BitVec 32 := 1#32
  let v106 : BitVec 32 := Scalar.muli v105 c1_i32_104
  let v107 : BitVec 32 := Scalar.addi c0_i32_105 v106
  v107.toNat
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v110 : BitVec 32 := Scalar.addi v2 c2_i32_108
  let c8_i32_109 : BitVec 32 := 8#32
  let v111 : BitVec 32 := Scalar.remsi v110 c8_i32_109
  let c1_i32_110 : BitVec 32 := 1#32
  let v112 : BitVec 32 := Scalar.muli v111 c1_i32_110
  let v113 : BitVec 32 := Scalar.addi c0_i32_111 v112
  v113.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v116 : BitVec 32 := Scalar.addi v2 c3_i32_114
  let c8_i32_115 : BitVec 32 := 8#32
  let v117 : BitVec 32 := Scalar.remsi v116 c8_i32_115
  let c1_i32_116 : BitVec 32 := 1#32
  let v118 : BitVec 32 := Scalar.muli v117 c1_i32_116
  let v119 : BitVec 32 := Scalar.addi c0_i32_117 v118
  v119.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v122 : BitVec 32 := Scalar.addi v2 c4_i32_120
  let c8_i32_121 : BitVec 32 := 8#32
  let v123 : BitVec 32 := Scalar.remsi v122 c8_i32_121
  let c1_i32_122 : BitVec 32 := 1#32
  let v124 : BitVec 32 := Scalar.muli v123 c1_i32_122
  let v125 : BitVec 32 := Scalar.addi c0_i32_123 v124
  v125.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v128 : BitVec 32 := Scalar.addi v2 c5_i32_126
  let c8_i32_127 : BitVec 32 := 8#32
  let v129 : BitVec 32 := Scalar.remsi v128 c8_i32_127
  let c1_i32_128 : BitVec 32 := 1#32
  let v130 : BitVec 32 := Scalar.muli v129 c1_i32_128
  let v131 : BitVec 32 := Scalar.addi c0_i32_129 v130
  v131.toNat
def k0_dev13 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v134 : BitVec 32 := Scalar.addi v2 c6_i32_132
  let c8_i32_133 : BitVec 32 := 8#32
  let v135 : BitVec 32 := Scalar.remsi v134 c8_i32_133
  let c1_i32_134 : BitVec 32 := 1#32
  let v136 : BitVec 32 := Scalar.muli v135 c1_i32_134
  let v137 : BitVec 32 := Scalar.addi c0_i32_135 v136
  v137.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_138 : BitVec 32 := 7#32
  let v140 : BitVec 32 := Scalar.addi v2 c7_i32_138
  let c8_i32_139 : BitVec 32 := 8#32
  let v141 : BitVec 32 := Scalar.remsi v140 c8_i32_139
  let c1_i32_140 : BitVec 32 := 1#32
  let v142 : BitVec 32 := Scalar.muli v141 c1_i32_140
  let v143 : BitVec 32 := Scalar.addi c0_i32_141 v142
  v143.toNat
@[reducible] def k0_t6_loop (v21 : BitVec 32) : Scf.Loop 32 :=
  let c0_i32_80 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v82 : BitVec 32 := Scalar.subi v40 c0_i32_80
  let c1_i32_81 : BitVec 32 := 1#32
  let v84 : BitVec 32 := Scalar.divsi v82 c1_i32_81
  let v85 : BitVec 32 := Scalar.muli v84 c1_i32_81
  let v86 : BitVec 32 := Scalar.addi c0_i32_80 v85
  let v83 : BitVec 32 := Scalar.addi c0_i32_80 v82
  let c1_i32_83 : BitVec 32 := 1#32
  ⟨v86, v83, c1_i32_83⟩
def k0_off9 (d0 : Dev nD) (v21 : BitVec 32) (k0_t6 : Fin (k0_t6_loop v21).trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32 : BitVec 32 := 384#32
  let v100 : BitVec 32 := Scalar.muli v2 c384_i32
  let c0_i32_80 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v82 : BitVec 32 := Scalar.subi v40 c0_i32_80
  let c1_i32_81 : BitVec 32 := 1#32
  let v84 : BitVec 32 := Scalar.divsi v82 c1_i32_81
  let v85 : BitVec 32 := Scalar.muli v84 c1_i32_81
  let v86 : BitVec 32 := Scalar.addi c0_i32_80 v85
  let c1_i32_83 : BitVec 32 := 1#32
  let arg11 : BitVec 32 := Scf.iv v86 c1_i32_83 k0_t6
  let c32_i32_100 : BitVec 32 := 32#32
  let v101 : BitVec 32 := Scalar.muli arg11 c32_i32_100
  let v102 : BitVec 32 := Scalar.addi v100 v101
  let c8_i32_101 : BitVec 32 := 8#32
  let v103 : BitVec 32 := Scalar.muli v102 c8_i32_101
  let c0_i32_106 : BitVec 32 := 0#32
  ![v103.toNat, 0]
def k0_off10 (v21 : BitVec 32) (k0_t6 : Fin (k0_t6_loop v21).trips) : Fin 2 → Nat :=
  let c0_i32_80 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v82 : BitVec 32 := Scalar.subi v40 c0_i32_80
  let c1_i32_81 : BitVec 32 := 1#32
  let v84 : BitVec 32 := Scalar.divsi v82 c1_i32_81
  let v85 : BitVec 32 := Scalar.muli v84 c1_i32_81
  let v86 : BitVec 32 := Scalar.addi c0_i32_80 v85
  let c1_i32_83 : BitVec 32 := 1#32
  let arg11 : BitVec 32 := Scf.iv v86 c1_i32_83 k0_t6
  let c32_i32_98 : BitVec 32 := 32#32
  let v98 : BitVec 32 := Scalar.muli arg11 c32_i32_98
  let c8_i32_99 : BitVec 32 := 8#32
  let v99 : BitVec 32 := Scalar.muli v98 c8_i32_99
  let c0_i32_107 : BitVec 32 := 0#32
  ![v99.toNat, 0]
def k0_dev15 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v104 : BitVec 32 := Scalar.addi v2 c1_i32_102
  let c8_i32_103 : BitVec 32 := 8#32
  let v105 : BitVec 32 := Scalar.remsi v104 c8_i32_103
  let c1_i32_104 : BitVec 32 := 1#32
  let v106 : BitVec 32 := Scalar.muli v105 c1_i32_104
  let v107 : BitVec 32 := Scalar.addi c0_i32_105 v106
  v107.toNat
def k0_dev16 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_108 : BitVec 32 := 2#32
  let v110 : BitVec 32 := Scalar.addi v2 c2_i32_108
  let c8_i32_109 : BitVec 32 := 8#32
  let v111 : BitVec 32 := Scalar.remsi v110 c8_i32_109
  let c1_i32_110 : BitVec 32 := 1#32
  let v112 : BitVec 32 := Scalar.muli v111 c1_i32_110
  let v113 : BitVec 32 := Scalar.addi c0_i32_111 v112
  v113.toNat
def k0_dev17 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v116 : BitVec 32 := Scalar.addi v2 c3_i32_114
  let c8_i32_115 : BitVec 32 := 8#32
  let v117 : BitVec 32 := Scalar.remsi v116 c8_i32_115
  let c1_i32_116 : BitVec 32 := 1#32
  let v118 : BitVec 32 := Scalar.muli v117 c1_i32_116
  let v119 : BitVec 32 := Scalar.addi c0_i32_117 v118
  v119.toNat
def k0_dev18 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v122 : BitVec 32 := Scalar.addi v2 c4_i32_120
  let c8_i32_121 : BitVec 32 := 8#32
  let v123 : BitVec 32 := Scalar.remsi v122 c8_i32_121
  let c1_i32_122 : BitVec 32 := 1#32
  let v124 : BitVec 32 := Scalar.muli v123 c1_i32_122
  let v125 : BitVec 32 := Scalar.addi c0_i32_123 v124
  v125.toNat
def k0_dev19 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v128 : BitVec 32 := Scalar.addi v2 c5_i32_126
  let c8_i32_127 : BitVec 32 := 8#32
  let v129 : BitVec 32 := Scalar.remsi v128 c8_i32_127
  let c1_i32_128 : BitVec 32 := 1#32
  let v130 : BitVec 32 := Scalar.muli v129 c1_i32_128
  let v131 : BitVec 32 := Scalar.addi c0_i32_129 v130
  v131.toNat
def k0_dev20 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v134 : BitVec 32 := Scalar.addi v2 c6_i32_132
  let c8_i32_133 : BitVec 32 := 8#32
  let v135 : BitVec 32 := Scalar.remsi v134 c8_i32_133
  let c1_i32_134 : BitVec 32 := 1#32
  let v136 : BitVec 32 := Scalar.muli v135 c1_i32_134
  let v137 : BitVec 32 := Scalar.addi c0_i32_135 v136
  v137.toNat
def k0_dev21 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_138 : BitVec 32 := 7#32
  let v140 : BitVec 32 := Scalar.addi v2 c7_i32_138
  let c8_i32_139 : BitVec 32 := 8#32
  let v141 : BitVec 32 := Scalar.remsi v140 c8_i32_139
  let c1_i32_140 : BitVec 32 := 1#32
  let v142 : BitVec 32 := Scalar.muli v141 c1_i32_140
  let v143 : BitVec 32 := Scalar.addi c0_i32_141 v142
  v143.toNat
@[reducible] def k0_t7_loop (v21 : BitVec 32) : Scf.Loop 32 :=
  let c0_i32_85 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v87 : BitVec 32 := Scalar.subi v40 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let c1_i32_87 : BitVec 32 := 1#32
  ⟨c0_i32_85, v91, c1_i32_87⟩
@[reducible] def k0_t8_loop (v21 : BitVec 32) : Scf.Loop 32 :=
  let c0_i32_85 : BitVec 32 := 0#32
  let c32_i32 : BitVec 32 := 32#32
  let v22 : BitVec 32 := Scalar.addi v21 c32_i32
  let c1_i32_27 : BitVec 32 := 1#32
  let v23 : BitVec 32 := Scalar.subi v22 c1_i32_27
  let c0_i32_29 : BitVec 32 := 0#32
  let v25 : BitVec 1 := Scalar.cmpi .sgt v23 c0_i32_29
  let v26 : BitVec 32 := Scalar.extui v25
  let c0_i32_30 : BitVec 32 := 0#32
  let v27 : BitVec 1 := Scalar.cmpi .slt v23 c0_i32_30
  let v28 : BitVec 32 := Scalar.extui v27
  let v29 : BitVec 32 := Scalar.subi v26 v28
  let c32_i32_28 : BitVec 32 := 32#32
  let c0_i32_31 : BitVec 32 := 0#32
  let v30 : BitVec 1 := Scalar.cmpi .sgt c32_i32_28 c0_i32_31
  let v31 : BitVec 32 := Scalar.extui v30
  let c0_i32_32 : BitVec 32 := 0#32
  let v32 : BitVec 1 := Scalar.cmpi .slt c32_i32_28 c0_i32_32
  let v33 : BitVec 32 := Scalar.extui v32
  let v34 : BitVec 32 := Scalar.subi v31 v33
  let v35 : BitVec 1 := Scalar.cmpi .ne v29 v34
  let v36 : BitVec 32 := Scalar.remsi v23 c32_i32_28
  let c0_i32_33 : BitVec 32 := 0#32
  let v37 : BitVec 1 := Scalar.cmpi .ne v36 c0_i32_33
  let v38 : BitVec 1 := Scalar.andi v35 v37
  let v24 : BitVec 32 := Scalar.divsi v23 c32_i32_28
  let c1_i32_34 : BitVec 32 := 1#32
  let v39 : BitVec 32 := Scalar.subi v24 c1_i32_34
  let v40 : BitVec 32 := Scalar.select v38 v39 v24
  let v87 : BitVec 32 := Scalar.subi v40 c0_i32_85
  let c1_i32_86 : BitVec 32 := 1#32
  let v89 : BitVec 32 := Scalar.divsi v87 c1_i32_86
  let v90 : BitVec 32 := Scalar.muli v89 c1_i32_86
  let v91 : BitVec 32 := Scalar.addi c0_i32_85 v90
  let v88 : BitVec 32 := Scalar.addi c0_i32_85 v87
  let c1_i32_88 : BitVec 32 := 1#32
  ⟨v91, v88, c1_i32_88⟩

def k0_chk3 (d0 : Dev nD) (v21 : BitVec 32) : Prop :=
  ((k0_t3_loop v21).OK) ∧
  ((k0_t4_loop v21).OK) ∧
  ((k0_t5_loop v21).OK) ∧
  (∀ k0_t5 : Fin (k0_t5_loop v21).trips, ∀ a, (k0_off7 d0 v21 k0_t5) a + S256x128.size a ≤ S24576x128.size a) ∧
  (∀ k0_t5 : Fin (k0_t5_loop v21).trips, ∀ a, (k0_off8 v21 k0_t5) a + S256x128.size a ≤ S8192x128.size a) ∧
  (∀ k0_t5 : Fin (k0_t5_loop v21).trips, ∀ (hinb : ∀ a, (k0_off8 v21 k0_t5) a + S256x128.size a ≤ S8192x128.size a), (Rect.unit (s := S8192x128) (k0_off8 v21 k0_t5) S256x128.size hinb).WholeWords (EltTy.packing .bf16)) ∧
  (∀ k0_t5 : Fin (k0_t5_loop v21).trips, ∀ (hinb : ∀ a, (k0_off7 d0 v21 k0_t5) a + S256x128.size a ≤ S24576x128.size a), (Rect.unit (s := S24576x128) (k0_off7 d0 v21 k0_t5) S256x128.size hinb).WholeWords (EltTy.packing .bf16)) ∧
  ((k0_t6_loop v21).OK) ∧
  (∀ k0_t6 : Fin (k0_t6_loop v21).trips, ∀ a, (k0_off9 d0 v21 k0_t6) a + S256x128.size a ≤ S24576x128.size a) ∧
  (∀ k0_t6 : Fin (k0_t6_loop v21).trips, ∀ a, (k0_off10 v21 k0_t6) a + S256x128.size a ≤ S8192x128.size a) ∧
  (∀ k0_t6 : Fin (k0_t6_loop v21).trips, ∀ (hinb : ∀ a, (k0_off10 v21 k0_t6) a + S256x128.size a ≤ S8192x128.size a), (Rect.unit (s := S8192x128) (k0_off10 v21 k0_t6) S256x128.size hinb).WholeWords (EltTy.packing .bf16)) ∧
  (∀ k0_t6 : Fin (k0_t6_loop v21).trips, ∀ (hinb : ∀ a, (k0_off9 d0 v21 k0_t6) a + S256x128.size a ≤ S24576x128.size a), (Rect.unit (s := S24576x128) (k0_off9 d0 v21 k0_t6) S256x128.size hinb).WholeWords (EltTy.packing .bf16)) ∧
  ((k0_t7_loop v21).OK) ∧
  ((k0_t8_loop v21).OK)
theorem k0_t3_ok : ∀ (d0 : Dev nD) (v21 : BitVec 32) (k0_hw3 : k0_chk3 d0 v21), (k0_t3_loop v21).OK := fun d0 v21 k0_hw3 => k0_hw3.1
theorem k0_t4_ok : ∀ (d0 : Dev nD) (v21 : BitVec 32) (k0_hw3 : k0_chk3 d0 v21), (k0_t4_loop v21).OK := fun d0 v21 k0_hw3 => k0_hw3.2.1
theorem k0_t5_ok : ∀ (d0 : Dev nD) (v21 : BitVec 32) (k0_hw3 : k0_chk3 d0 v21), (k0_t5_loop v21).OK := fun d0 v21 k0_hw3 => k0_hw3.2.2.1
theorem k0_off7_inb : ∀ (d0 : Dev nD) (v21 : BitVec 32) (k0_hw3 : k0_chk3 d0 v21) (k0_t5 : Fin (k0_t5_loop v21).trips), ∀ a, (k0_off7 d0 v21 k0_t5) a + S256x128.size a ≤ S24576x128.size a := fun d0 v21 k0_hw3 k0_t5 => k0_hw3.2.2.2.1 k0_t5
theorem k0_off8_inb : ∀ (d0 : Dev nD) (v21 : BitVec 32) (k0_hw3 : k0_chk3 d0 v21) (k0_t5 : Fin (k0_t5_loop v21).trips), ∀ a, (k0_off8 v21 k0_t5) a + S256x128.size a ≤ S8192x128.size a := fun d0 v21 k0_hw3 k0_t5 => k0_hw3.2.2.2.2.1 k0_t5
theorem k0_off8_wordsbf16 : ∀ (d0 : Dev nD) (v21 : BitVec 32) (k0_hw3 : k0_chk3 d0 v21) (k0_t5 : Fin (k0_t5_loop v21).trips), (Rect.unit (s := S8192x128) (k0_off8 v21 k0_t5) S256x128.size (k0_off8_inb d0 v21 k0_hw3 k0_t5)).WholeWords (EltTy.packing .bf16) := fun d0 v21 k0_hw3 k0_t5 => k0_hw3.2.2.2.2.2.1 k0_t5 (k0_off8_inb d0 v21 k0_hw3 k0_t5)
theorem k0_off7_wordsbf16 : ∀ (d0 : Dev nD) (v21 : BitVec 32) (k0_hw3 : k0_chk3 d0 v21) (k0_t5 : Fin (k0_t5_loop v21).trips), (Rect.unit (s := S24576x128) (k0_off7 d0 v21 k0_t5) S256x128.size (k0_off7_inb d0 v21 k0_hw3 k0_t5)).WholeWords (EltTy.packing .bf16) := fun d0 v21 k0_hw3 k0_t5 => k0_hw3.2.2.2.2.2.2.1 k0_t5 (k0_off7_inb d0 v21 k0_hw3 k0_t5)
theorem k0_t6_ok : ∀ (d0 : Dev nD) (v21 : BitVec 32) (k0_hw3 : k0_chk3 d0 v21), (k0_t6_loop v21).OK := fun d0 v21 k0_hw3 => k0_hw3.2.2.2.2.2.2.2.1
theorem k0_off9_inb : ∀ (d0 : Dev nD) (v21 : BitVec 32) (k0_hw3 : k0_chk3 d0 v21) (k0_t6 : Fin (k0_t6_loop v21).trips), ∀ a, (k0_off9 d0 v21 k0_t6) a + S256x128.size a ≤ S24576x128.size a := fun d0 v21 k0_hw3 k0_t6 => k0_hw3.2.2.2.2.2.2.2.2.1 k0_t6
theorem k0_off10_inb : ∀ (d0 : Dev nD) (v21 : BitVec 32) (k0_hw3 : k0_chk3 d0 v21) (k0_t6 : Fin (k0_t6_loop v21).trips), ∀ a, (k0_off10 v21 k0_t6) a + S256x128.size a ≤ S8192x128.size a := fun d0 v21 k0_hw3 k0_t6 => k0_hw3.2.2.2.2.2.2.2.2.2.1 k0_t6
theorem k0_off10_wordsbf16 : ∀ (d0 : Dev nD) (v21 : BitVec 32) (k0_hw3 : k0_chk3 d0 v21) (k0_t6 : Fin (k0_t6_loop v21).trips), (Rect.unit (s := S8192x128) (k0_off10 v21 k0_t6) S256x128.size (k0_off10_inb d0 v21 k0_hw3 k0_t6)).WholeWords (EltTy.packing .bf16) := fun d0 v21 k0_hw3 k0_t6 => k0_hw3.2.2.2.2.2.2.2.2.2.2.1 k0_t6 (k0_off10_inb d0 v21 k0_hw3 k0_t6)
theorem k0_off9_wordsbf16 : ∀ (d0 : Dev nD) (v21 : BitVec 32) (k0_hw3 : k0_chk3 d0 v21) (k0_t6 : Fin (k0_t6_loop v21).trips), (Rect.unit (s := S24576x128) (k0_off9 d0 v21 k0_t6) S256x128.size (k0_off9_inb d0 v21 k0_hw3 k0_t6)).WholeWords (EltTy.packing .bf16) := fun d0 v21 k0_hw3 k0_t6 => k0_hw3.2.2.2.2.2.2.2.2.2.2.2.1 k0_t6 (k0_off9_inb d0 v21 k0_hw3 k0_t6)
theorem k0_t7_ok : ∀ (d0 : Dev nD) (v21 : BitVec 32) (k0_hw3 : k0_chk3 d0 v21), (k0_t7_loop v21).OK := fun d0 v21 k0_hw3 => k0_hw3.2.2.2.2.2.2.2.2.2.2.2.2.1
theorem k0_t8_ok : ∀ (d0 : Dev nD) (v21 : BitVec 32) (k0_hw3 : k0_chk3 d0 v21), (k0_t8_loop v21).OK := fun d0 v21 k0_hw3 => k0_hw3.2.2.2.2.2.2.2.2.2.2.2.2.2

@[reducible] def k0_t9_loop (v42 : BitVec 32) : Scf.Loop 32 :=
  let c0_i32_90 : BitVec 32 := 0#32
  let v92 : BitVec 32 := Scalar.subi v42 c0_i32_90
  let c1_i32_91 : BitVec 32 := 1#32
  let v94 : BitVec 32 := Scalar.divsi v92 c1_i32_91
  let v95 : BitVec 32 := Scalar.muli v94 c1_i32_91
  let v96 : BitVec 32 := Scalar.addi c0_i32_90 v95
  let c1_i32_92 : BitVec 32 := 1#32
  ⟨c0_i32_90, v96, c1_i32_92⟩

@[reducible] def k0_t10_loop (v42 : BitVec 32) : Scf.Loop 32 :=
  let c0_i32_90 : BitVec 32 := 0#32
  let v92 : BitVec 32 := Scalar.subi v42 c0_i32_90
  let c1_i32_91 : BitVec 32 := 1#32
  let v94 : BitVec 32 := Scalar.divsi v92 c1_i32_91
  let v95 : BitVec 32 := Scalar.muli v94 c1_i32_91
  let v96 : BitVec 32 := Scalar.addi c0_i32_90 v95
  let v93 : BitVec 32 := Scalar.addi c0_i32_90 v92
  let c1_i32_93 : BitVec 32 := 1#32
  ⟨v96, v93, c1_i32_93⟩

def k0_chk4 (v42 : BitVec 32) : Prop :=
  ((k0_t9_loop v42).OK) ∧
  ((k0_t10_loop v42).OK)
theorem k0_t9_ok : ∀ (v42 : BitVec 32) (k0_hw4 : k0_chk4 v42), (k0_t9_loop v42).OK := fun v42 k0_hw4 => k0_hw4.1
theorem k0_t10_ok : ∀ (v42 : BitVec 32) (k0_hw4 : k0_chk4 v42), (k0_t10_loop v42).OK := fun v42 k0_hw4 => k0_hw4.2

@[reducible] def k0_t11_loop : Scf.Loop 32 :=
  let c0_i32_94 : BitVec 32 := 0#32
  let c1024_i32_95 : BitVec 32 := 1024#32
  let v97 : BitVec 32 := Scalar.addi c0_i32_94 c1024_i32_95
  let c1_i32_96 : BitVec 32 := 1#32
  ⟨c0_i32_94, v97, c1_i32_96⟩
def k0_off11 (k0_t11 : Fin k0_t11_loop.trips) : Fin 1 → Nat :=
  let c0_i32_94 : BitVec 32 := 0#32
  let c1_i32_96 : BitVec 32 := 1#32
  let arg11 : BitVec 32 := Scf.iv c0_i32_94 c1_i32_96 k0_t11
  let v98 : Index := Scalar.indexCast arg11
  ![v98.toNat]
def k0_off12 (v99 : BitVec 32) : Fin 1 → Nat :=
  let c13_i32 : BitVec 32 := 13#32
  let v100 : BitVec 32 := Scalar.shrui v99 c13_i32
  let v101 : Index := Scalar.indexCast v100
  ![v101.toNat]

def k0_chk5 (v99 : BitVec 32) : Prop :=
  (∀ a, (k0_off12 v99) a + S1.size a ≤ S8.size a)
theorem k0_off12_inb : ∀ (v99 : BitVec 32) (k0_hw5 : k0_chk5 v99), ∀ a, (k0_off12 v99) a + S1.size a ≤ S8.size a := fun v99 k0_hw5 => k0_hw5

def k0_off13 (v99 : BitVec 32) (v102 : BitVec 32) : Fin 2 → Nat :=
  let c13_i32 : BitVec 32 := 13#32
  let v100 : BitVec 32 := Scalar.shrui v99 c13_i32
  let c384_i32 : BitVec 32 := 384#32
  let v106 : BitVec 32 := Scalar.muli v100 c384_i32
  let v107 : BitVec 32 := Scalar.addi v106 v102
  let c8_i32_99 : BitVec 32 := 8#32
  let v108 : BitVec 32 := Scalar.muli v107 c8_i32_99
  let v109 : Index := Scalar.indexCast v108
  let c0_100 : Index := 0#32
  ![v109.toNat, 0]

def k0_chk6 (v99 : BitVec 32) (v102 : BitVec 32) : Prop :=
  (∀ a, (k0_off13 v99 v102) a + S8x128.size a ≤ S24576x128.size a)
theorem k0_off13_inb : ∀ (v99 : BitVec 32) (v102 : BitVec 32) (k0_hw6 : k0_chk6 v99 v102), ∀ a, (k0_off13 v99 v102) a + S8x128.size a ≤ S24576x128.size a := fun v99 v102 k0_hw6 => k0_hw6

def k0_off14 (k0_t11 : Fin k0_t11_loop.trips) : Fin 2 → Nat :=
  let c0_i32_94 : BitVec 32 := 0#32
  let c1_i32_96 : BitVec 32 := 1#32
  let arg11 : BitVec 32 := Scf.iv c0_i32_94 c1_i32_96 k0_t11
  let c8_i32_101 : BitVec 32 := 8#32
  let v111 : BitVec 32 := Scalar.muli arg11 c8_i32_101
  let v112 : Index := Scalar.indexCast v111
  let c0_102 : Index := 0#32
  ![v112.toNat, 0]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024 : Shape := ⟨1, ![1024]⟩
abbrev S65536x1024 : Shape := ⟨2, ![65536, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024, .i32⟩
  | .hbm, ⟨1, _⟩ => ⟨S65536x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | .hbm, ⟨11, _⟩ => ⟨S1024x1024, .bf16⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Count.lean ====
/-
  Counting tokens by the device that owns them. `f t` is the owner of token `t`; `cnt f n s` counts the tokens before `n`
  owned by `s`; the slot of token `t` on its owner is `cnt f t (f t)`; `tok f s k` is the token in slot `k` of owner `s`;
  `nch f s` is the number of chunks of 32 slots owner `s` sends.
-/
module

public import Mathlib.Algebra.BigOperators.Group.Finset.Basic
public import Mathlib.Algebra.BigOperators.Intervals
public import Mathlib.Algebra.Order.BigOperators.Group.Finset
public import Mathlib.Data.Finset.Card
public import Mathlib.Tactic.Ring

@[expose] public section

namespace Cert.Lookup

/-- The tokens before `n` that `s` owns, counted. -/
def cnt (f : ℕ → ℕ) (n s : ℕ) : ℕ := ((Finset.range n).filter (fun t => f t = s)).card

theorem cnt_zero (f : ℕ → ℕ) (s : ℕ) : cnt f 0 s = 0 := by simp [cnt]

theorem cnt_succ (f : ℕ → ℕ) (n s : ℕ) : cnt f (n + 1) s = cnt f n s + if f n = s then 1 else 0 := by
  unfold cnt
  rw [Finset.range_add_one, Finset.filter_insert]
  split
  · rw [Finset.card_insert_of_notMem (by simp)]
  · rfl

theorem cnt_succ_self (f : ℕ → ℕ) (n : ℕ) : cnt f (n + 1) (f n) = cnt f n (f n) + 1 := by
  rw [cnt_succ, if_pos rfl]

theorem cnt_succ_ne (f : ℕ → ℕ) (n s : ℕ) (h : f n ≠ s) : cnt f (n + 1) s = cnt f n s := by
  rw [cnt_succ, if_neg h, Nat.add_zero]

theorem cnt_mono (f : ℕ → ℕ) {n n' : ℕ} (h : n ≤ n') (s : ℕ) : cnt f n s ≤ cnt f n' s := by
  induction h with
  | refl => exact le_refl _
  | step _ ih => exact ih.trans (by rw [Nat.succ_eq_add_one, cnt_succ]; omega)

theorem cnt_le (f : ℕ → ℕ) (n s : ℕ) : cnt f n s ≤ n := by
  unfold cnt
  exact (Finset.card_filter_le _ _).trans (by simp)

theorem cnt_lt_of_lt (f : ℕ → ℕ) {t n : ℕ} (h : t < n) : cnt f t (f t) < cnt f n (f t) := by
  have h1 := cnt_mono f (Nat.succ_le_of_lt h) (f t)
  rw [Nat.succ_eq_add_one, cnt_succ_self] at h1
  omega

theorem cnt_inj (f : ℕ → ℕ) {t t' : ℕ} (hs : f t = f t') (h : cnt f t (f t) = cnt f t' (f t')) : t = t' := by
  rcases Nat.lt_trichotomy t t' with hlt | heq | hgt
  · have := cnt_lt_of_lt f hlt
    rw [← hs] at h; omega
  · exact heq
  · have := cnt_lt_of_lt f hgt
    rw [hs] at h; omega

theorem exists_tok (f : ℕ → ℕ) (s : ℕ) : ∀ n k, k < cnt f n s → ∃ t, t < n ∧ f t = s ∧ cnt f t s = k
  | 0, k, h => by rw [cnt_zero] at h; omega
  | n + 1, k, h => by
    by_cases hk : k < cnt f n s
    · obtain ⟨t, ht, hf, hc⟩ := exists_tok f s n k hk
      exact ⟨t, by omega, hf, hc⟩
    · rw [cnt_succ] at h
      by_cases hn : f n = s
      · rw [if_pos hn] at h
        exact ⟨n, by omega, hn, by omega⟩
      · rw [if_neg hn] at h; omega

open Classical in
/-- The token in slot `k` of owner `s`. -/
noncomputable def tok (f : ℕ → ℕ) (s k : ℕ) : ℕ :=
  if h : ∃ t, t < 1024 ∧ f t = s ∧ cnt f t s = k then h.choose else 0

theorem tok_spec (f : ℕ → ℕ) (s k : ℕ) (hk : k < cnt f 1024 s) : tok f s k < 1024 ∧ f (tok f s k) = s ∧ cnt f (tok f s k) s = k := by
  have h := exists_tok f s 1024 k hk
  unfold tok
  rw [dif_pos h]
  exact h.choose_spec

theorem tok_cnt (f : ℕ → ℕ) {t : ℕ} (ht : t < 1024) : tok f (f t) (cnt f t (f t)) = t := by
  obtain ⟨_, h2, h3⟩ := tok_spec f (f t) (cnt f t (f t)) (cnt_lt_of_lt f ht)
  exact cnt_inj f h2 (by rw [h2]; exact h3)

/-- The chunks of 32 slots owner `s` sends. -/
def nch (f : ℕ → ℕ) (s : ℕ) : ℕ := (cnt f 1024 s + 31) / 32

theorem nch_le (f : ℕ → ℕ) (s : ℕ) (h : cnt f 1024 s ≤ 384) : nch f s ≤ 12 := by unfold nch; omega

theorem slot_lt (f : ℕ → ℕ) (s k : ℕ) (h : k < cnt f 1024 s) : k / 32 < nch f s := by unfold nch; omega

/-- The chunks of all eight owners. -/
def total (f : ℕ → ℕ) : ℕ := ∑ s ∈ Finset.range 8, nch f s

end Cert.Lookup
-- ==== Proof.Geo.lean ====
/-
  Rows of a two-axis buffer of 128 lanes: the rectangle of `n` rows from row `a`, as a set of indices; what a view of a
  rectangle of a whole buffer reads and writes, index by index.
-/
module

public import Idealize.ShloMosaic.Lib.Pipeline
public import Idealize.ShloMosaic.Lib.Pipeline.ValueKit.Geometry

@[expose] public section

namespace Cert.Lookup

open Idealize.ShloMosaic

/-- The indices of rows `a … a+n-1`. -/
def rows (R a n : ℕ) : Finset (⟨2, ![R, 128]⟩ : Shape).Idx :=
  Finset.univ.filter fun x => a ≤ (x 0).val ∧ (x 0).val < a + n

theorem mem_rows {R a n : ℕ} {x : (⟨2, ![R, 128]⟩ : Shape).Idx} :
    x ∈ rows R a n ↔ a ≤ (x 0).val ∧ (x 0).val < a + n := by
  simp [rows]

theorem rows_disjoint {R a n b k : ℕ} (h : a + n ≤ b ∨ b + k ≤ a) : Disjoint (rows R a n) (rows R b k) := by
  rw [Finset.disjoint_left]
  intro x hx hy
  rw [mem_rows] at hx hy
  omega

theorem rows_univ (R : ℕ) : rows R 0 R = Finset.univ := by
  ext x
  have := (x 0).isLt
  simp only [mem_rows, Finset.mem_univ, iff_true]
  exact ⟨Nat.zero_le _, by simpa using this⟩

theorem set_rows {R a n : ℕ} {off : Fin 2 → ℕ} (h : off = ![a, 0]) (inb : ∀ i, off i + ![n, 128] i ≤ ![R, 128] i) :
    (Rect.unit (s := (⟨2, ![R, 128]⟩ : Shape)) off ![n, 128] inb).set = rows R a n := by
  subst h
  ext x
  have h1 : (x 1).val < 128 := (x 1).isLt
  rw [Rect.mem_set_unit, mem_rows]
  constructor
  · intro h
    have := h 0
    simpa using this
  · intro h i
    fin_cases i
    · simpa using h
    · simpa using h1

variable {sig : RefSig} {κ : Kind} {Val : EltTy → Type}

section At
variable (b : Ref sig κ) {off size : Fin b.ty.shape.rank → ℕ} {inb : ∀ a, off a + size a ≤ b.ty.shape.size a}

theorem write_at (f : b.ty.Contents Val) (w : (Rect.unit off size inb).shape.Idx → Val b.ty.elt)
    {x : b.ty.shape.Idx} (j : (Rect.unit off size inb).shape.Idx) (hj : ∀ a, (x a).val = off a + (j a).val) :
    ((View.whole b).slice (Rect.unit off size inb)).write Val f w Finset.univ x = w j := by
  have hx : x = ((View.whole b).slice (Rect.unit off size inb)).emb j := by
    funext a
    apply Fin.ext
    rw [hj a]
    exact (ValueKit.view_emb_slice_whole_unit_val b off size inb j a).symm
  rw [hx, View.write_emb_of_mem _ _ (Finset.mem_univ j)]
  rfl

theorem write_off (f : b.ty.Contents Val) (w : (Rect.unit off size inb).shape.Idx → Val b.ty.elt)
    {x : b.ty.shape.Idx} (hx : x ∉ (Rect.unit off size inb).set) :
    ((View.whole b).slice (Rect.unit off size inb)).write Val f w Finset.univ x = f x := by
  apply View.write_of_not_mem
  rw [View.setOn_univ, View.set_slice_whole]
  exact hx

theorem read_at (f : b.ty.Contents Val) (j : (Rect.unit off size inb).shape.Idx) {x : b.ty.shape.Idx}
    (hj : ∀ a, (x a).val = off a + (j a).val) :
    ((View.whole b).slice (Rect.unit off size inb)).read Val f j = f x := by
  have hx : x = ((View.whole b).slice (Rect.unit off size inb)).emb j := by
    funext a
    apply Fin.ext
    rw [hj a]
    exact (ValueKit.view_emb_slice_whole_unit_val b off size inb j a).symm
  rw [hx, View.read_apply]
  rfl

end At

/-- The index of row `r`, lane `l`. -/
def ix2 {R : ℕ} (r : Fin R) (l : Fin 128) : (⟨2, ![R, 128]⟩ : Shape).Idx := fun a =>
  match a with
  | 0 => r
  | 1 => l

/-- The index `t` of a one-axis buffer. -/
def ix1 {n : ℕ} (t : Fin n) : (⟨1, ![n]⟩ : Shape).Idx := fun a =>
  match a with
  | 0 => t

theorem ix1_eq {n : ℕ} (x : (⟨1, ![n]⟩ : Shape).Idx) (t : Fin n) (h : (x 0).val = t.val) : x = ix1 t := by
  funext a
  match a with
  | 0 => exact Fin.ext h

theorem ix2_eq {R : ℕ} (x : (⟨2, ![R, 128]⟩ : Shape).Idx) : x = ix2 (x 0) (x 1) := by
  funext a
  match a with
  | 0 => rfl
  | 1 => rfl

end Cert.Lookup
-- ==== Proof.Pre.lean ====
/- What the precondition says of a device's copy of the words: each is a row of the whole table, and every device owns 128 of them. -/
module

public import proofs.«01_k».proof.Proof.Gen.Pre_balanced_Kernel
public import proofs.«01_k».proof.Proof.Count
public import proofs.«01_k».proof.Proof.Geo
public import Idealize.ShloMosaic.Lib.ReduceAll
public import Idealize.ShloMosaic.Lib.StableHlo.Predicate

@[expose] public section

noncomputable section

namespace Cert.Lookup

open Idealize.ShloMosaic Cert.Pre_balanced_Kernel Cert.Pre_balanced_Kernel.Gen
open Idealize.ShloMosaic.StableHlo (Predicate.toNat_reduce_count_rows Predicate.ij Predicate.cmpi_eq_iff)

variable {F : FTy → Type} [FloatOps F]

/-- The owner that the precondition computes of a word in range. -/
theorem owner_shift (w : BitVec 32) (h : w.toNat < 65536) : (IntOp.shrsi .host w 13#32).toNat = w.toNat / 8192 := by
  unfold IntOp.shrsi
  rw [if_pos (by decide)]
  show (w.sshiftRight 13).toNat = _
  rw [BitVec.sshiftRight_eq_of_msb_false (BitVec.msb_eq_false_iff_two_mul_lt.mpr (by omega)), BitVec.toNat_ushiftRight, Nat.shiftRight_eq_div_pow]

theorem card_cnt (f : ℕ → ℕ) (s : ℕ) : (Finset.univ.filter fun p : Fin 1024 => f p.val = s).card = cnt f 1024 s := by
  unfold cnt
  refine Finset.card_bij (fun p _ => p.val) (fun p hp => ?_) (fun p _ q _ e => Fin.ext e) (fun t ht => ?_)
  · exact Finset.mem_filter.2 ⟨Finset.mem_range.2 p.isLt, (Finset.mem_filter.1 hp).2⟩
  · obtain ⟨h1, h2⟩ := Finset.mem_filter.1 ht
    exact ⟨⟨t, Finset.mem_range.1 h1⟩, Finset.mem_filter.2 ⟨Finset.mem_univ _, h2⟩, rfl⟩

instance : Subsingleton S_.Idx := ⟨fun a b => funext fun i => i.elim0⟩

theorem pre_facts (a : IVec S1024 32) (b : FVec F S8192x1024 .f32) (e : fn (F := F) a b = fun _ => 1#1) :
    (∀ t : Fin 1024, (a (ix1 t)).toNat < 65536)
    ∧ ∀ s : Fin 8, cnt (fun t => (a (ix1 ⟨t % 1024, Nat.mod_lt _ (by decide)⟩)).toNat / 8192) 1024 s.val = 128 := by
  have h := congrFun e (fun a => a.elim0)
  dsimp only [fn, fn_part1] at h
  obtain ⟨hr, hc⟩ := IntOp.andi_eq_one.1 h
  have range : ∀ t : Fin 1024, (a (ix1 t)).toNat < 65536 := fun t => by
    have h1 := Host.reduce_andi_all _ _ _ _ _ hr (ix1 t)
    obtain ⟨h2, h3⟩ := IntOp.andi_eq_one.1 h1
    have h2' : (0#32).toInt ≤ (a (ix1 t)).toInt := IntOp.cmpi_sge.1 h2
    have h3' : (a (ix1 t)).toInt < (65536#32).toInt := IntOp.cmpi_slt.1 h3
    have e0 : (0#32 : BitVec 32).toInt = 0 := by decide
    have e1 : (65536#32 : BitVec 32).toInt = 65536 := by decide
    rw [e0] at h2'; rw [e1] at h3'
    rw [BitVec.toInt_eq_toNat_cond] at h2' h3'
    have := (a (ix1 t)).isLt
    split at h2' <;> split at h3' <;> omega
  refine ⟨range, fun s => ?_⟩
  have h1 := Host.reduce_andi_all _ _ _ _ _ hc (ix1 s)
  have h2 := IntOp.cmpi_eq.1 h1
  have h3 := congrArg BitVec.toNat h2
  have h4 := Predicate.toNat_reduce_count_rows (n := 1024) (m := 8) (by decide)
    (cmpi .eq (broadcastInDim S1024x8 ![0, 1] bcast_S1024x1_S1024x8_0_1 (broadcastInDim S1024x1 ![0] bcast_S1024_S1024x1_0 (Host.shrsi a (broadcastInDim S1024 ![] bcast_S_S1024 (constantI S_ 32 13#32)))))
      (broadcastInDim S1024x8 ![0, 1] bcast_S1x8_S1024x8_0_1 (broadcastInDim S1x8 ![1] bcast_S8_S1x8_1 (iotaInDim S8 32 0)))) natLt_1_32 reducesTo_S1024x8_S8_d0 h_S_ (ix1 s)
  have h5 := h4.symm.trans h3
  rw [← card_cnt]
  refine Eq.trans (congrArg Finset.card (Finset.filter_congr fun p _ => ?_)) h5
  have hp : (⟨p.val % 1024, Nat.mod_lt _ (by decide)⟩ : Fin 1024) = p := Fin.ext (Nat.mod_eq_of_lt p.isLt)
  rw [hp]
  have ha : ∀ x : S1024.Idx, x = ix1 p → (a x) = a (ix1 p) := fun x h => by rw [h]
  refine Iff.symm (Predicate.cmpi_eq_iff.trans ?_)
  show IntOp.shrsi .host (a _) 13#32 = BitVec.ofNat 32 s.val ↔ _
  rw [ha _ (ix1_eq _ p rfl)]
  have hs := s.isLt
  have hw := owner_shift (a (ix1 p)) (range p)
  constructor
  · intro h; rw [h, BitVec.toNat_ofNat] at hw; omega
  · intro h; apply BitVec.eq_of_toNat_eq; rw [hw, BitVec.toNat_ofNat]; omega

end Cert.Lookup

end
-- ==== Proof.Drawn.lean ====
/- What the second precondition says of a device's copy of the words: each is a row of the whole table, and the devices own as many of
   them each as those that `setup_inputs` draws. -/
module

public import proofs.«01_k».proof.Proof.Gen.Pre_drawn_Kernel
public import proofs.«01_k».proof.Proof.Pre

@[expose] public section

noncomputable section

namespace Cert.Lookup

open Idealize.ShloMosaic Cert.Pre_drawn_Kernel Cert.Pre_drawn_Kernel.Gen
open Idealize.ShloMosaic.StableHlo (Predicate.toNat_reduce_count_rows Predicate.ij Predicate.cmpi_eq_iff)

variable {F : FTy → Type} [FloatOps F]

/-- How many of the drawn words device `s` owns. -/
def drawn (s : ℕ) : ℕ := [135, 133, 122, 133, 123, 132, 130, 116].getD s 0

theorem drawn_le (s : Fin 8) : drawn s.val ≤ 384 := by revert s; decide

theorem lit_drawn (s : Fin 8) : (lit0 (S8.rowMajor (ix1 s))).toNat = drawn s.val := by revert s; decide

theorem drawn_facts (a : IVec S1024 32) (b : FVec F S8192x1024 .f32) (e : fn (F := F) a b = fun _ => 1#1) :
    (∀ t : Fin 1024, (a (ix1 t)).toNat < 65536)
    ∧ ∀ s : Fin 8, cnt (fun t => (a (ix1 ⟨t % 1024, Nat.mod_lt _ (by decide)⟩)).toNat / 8192) 1024 s.val = drawn s.val := by
  have h := congrFun e (fun a => a.elim0)
  dsimp only [fn, fn_part1] at h
  obtain ⟨hr, hc⟩ := IntOp.andi_eq_one.1 h
  have range : ∀ t : Fin 1024, (a (ix1 t)).toNat < 65536 := fun t => by
    have h1 := Host.reduce_andi_all _ _ _ _ _ hr (ix1 t)
    obtain ⟨h2, h3⟩ := IntOp.andi_eq_one.1 h1
    have h2' : (0#32).toInt ≤ (a (ix1 t)).toInt := IntOp.cmpi_sge.1 h2
    have h3' : (a (ix1 t)).toInt < (65536#32).toInt := IntOp.cmpi_slt.1 h3
    have e0 : (0#32 : BitVec 32).toInt = 0 := by decide
    have e1 : (65536#32 : BitVec 32).toInt = 65536 := by decide
    rw [e0] at h2'; rw [e1] at h3'
    rw [BitVec.toInt_eq_toNat_cond] at h2' h3'
    have := (a (ix1 t)).isLt
    split at h2' <;> split at h3' <;> omega
  refine ⟨range, fun s => ?_⟩
  have h1 := Host.reduce_andi_all _ _ _ _ _ hc (ix1 s)
  have h2 := IntOp.cmpi_eq.1 h1
  have h3 := (congrArg BitVec.toNat h2).trans (lit_drawn s)
  have h4 := Predicate.toNat_reduce_count_rows (n := 1024) (m := 8) (by decide)
    (cmpi .eq (broadcastInDim S1024x8 ![0, 1] bcast_S1024x1_S1024x8_0_1 (broadcastInDim S1024x1 ![0] bcast_S1024_S1024x1_0 (Host.shrsi a (broadcastInDim S1024 ![] bcast_S_S1024 (constantI S_ 32 13#32)))))
      (broadcastInDim S1024x8 ![0, 1] bcast_S1x8_S1024x8_0_1 (broadcastInDim S1x8 ![1] bcast_S8_S1x8_1 (iotaInDim S8 32 0)))) natLt_1_32 reducesTo_S1024x8_S8_d0 h_S_ (ix1 s)
  have h5 := h4.symm.trans h3
  rw [← card_cnt]
  refine Eq.trans (congrArg Finset.card (Finset.filter_congr fun p _ => ?_)) h5
  have hp : (⟨p.val % 1024, Nat.mod_lt _ (by decide)⟩ : Fin 1024) = p := Fin.ext (Nat.mod_eq_of_lt p.isLt)
  rw [hp]
  have ha : ∀ x : S1024.Idx, x = ix1 p → (a x) = a (ix1 p) := fun x h => by rw [h]
  refine Iff.symm (Predicate.cmpi_eq_iff.trans ?_)
  show IntOp.shrsi .host (a _) 13#32 = BitVec.ofNat 32 s.val ↔ _
  rw [ha _ (ix1_eq _ p rfl)]
  have hs := s.isLt
  have hw := owner_shift (a (ix1 p)) (range p)
  constructor
  · intro h; rw [h, BitVec.toNat_ofNat] at hw; omega
  · intro h; apply BitVec.eq_of_toNat_eq; rw [hw, BitVec.toNat_ofNat]; omega

end Cert.Lookup

end
-- ==== Proof.KI.Words.lean ====
/-
  The words the kernel computes, as numbers: the owner of an id, the offsets of the copies, the trip counts of its loops,
  and the side conditions that it assumes of the words it has read.
-/
module

public import proofs.«01_k».proof.Proof.Gen.KernelIdeal
public import proofs.«01_k».proof.Proof.Gen.KernelIdeal.Skeleton
public import Idealize.ShloMosaic.Lib.Affine

@[expose] public section

namespace Cert.KernelIdeal.Lookup

open Idealize.ShloMosaic Cert.KernelIdeal Cert.KernelIdeal.Gen

theorem shr_eq (v : BitVec 32) : Scalar.shrui v 13#32 = BitVec.ofNat 32 (v.toNat / 8192) := by
  apply BitVec.eq_of_toNat_eq
  have hv := v.isLt
  rw [BitVec.toNat_ofNat, Nat.mod_eq_of_lt (by omega)]
  show (IntOp.shrui .scalar v 13#32).toNat = _
  simp [IntOp.shrui, BitVec.toNat_ushiftRight, Nat.shiftRight_eq_div_pow]

theorem off2_eq (v : BitVec 32) : k0_off2 v = ![v.toNat / 8192] := by
  have hv := v.isLt
  unfold k0_off2
  dsimp only
  rw [shr_eq]
  exact Affine.vec_cons (e := ((v.toNat / 8192 : ℕ) : ℤ)) (Affine.indexCast (Affine.ofNat _ ⟨rfl, by omega⟩)) (by omega) Affine.vec_nil

theorem off12_eq (v : BitVec 32) : k0_off12 v = ![v.toNat / 8192] := off2_eq v

theorem off4_eq (n : ℕ) (h : n ≤ 1024) : k0_off4 (BitVec.ofNat 32 n) = ![8 * n, 0] := by
  unfold k0_off4
  dsimp only
  exact Affine.vec_cons (e := (8 * n : ℤ)) (Affine.muli (Affine.ofNat n ⟨rfl, by omega⟩) (Affine.ofNat 8 ⟨rfl, by omega⟩) (by omega)) (by omega) rfl

theorem word_int (d : Dev nD) : Affine.IsInt (Dev.word d) (d.val : ℤ) := Affine.ofNat d.val ⟨rfl, by have h : d.val < 8 := d.isLt; omega⟩

theorem me_int (d : Dev nD) : Affine.IsInt (Scalar.remsi (Scalar.divsi (Dev.word d) 1#32) 8#32) (d.val : ℤ) := by
  have hd : d.val < 8 := d.isLt
  have h1 : Affine.IsInt (Scalar.divsi (Dev.word d) 1#32) (d.val : ℤ) :=
    Affine.divsi_one (word_int d) (Affine.ofNat 1 ⟨rfl, by omega⟩) ⟨rfl, by omega⟩
  exact Affine.remsi h1 (Affine.ofNat 8 ⟨rfl, by omega⟩) (by omega)

theorem me_eq (d : Dev nD) : Scalar.remsi (Scalar.divsi (Dev.word d) 1#32) 8#32 = BitVec.ofNat 32 d.val := by
  revert d; decide

theorem cmp_iff (d : Dev nD) (v : BitVec 32) (hv : v.toNat < 65536) :
    Scalar.cmpi .eq (Scalar.shrui v 13#32) (Scalar.remsi (Scalar.divsi (Dev.word d) 1#32) 8#32) = 1#1 ↔ v.toNat / 8192 = d.val := by
  have hd : d.val < 8 := d.isLt
  have ha : Affine.IsInt (Scalar.shrui v 13#32) ((v.toNat / 8192 : ℕ) : ℤ) := by
    rw [shr_eq]; exact Affine.ofNat _ ⟨rfl, by omega⟩
  constructor
  · intro h
    by_contra hne
    exact Affine.eq_fails ha (me_int d) (by omega) h
  · intro h
    exact Affine.eq_holds ha (me_int d) (by omega)

theorem cmp_word (d : Dev nD) (v : BitVec 32) (hv : v.toNat < 65536) :
    Scalar.extui (Scalar.cmpi .eq (Scalar.shrui v 13#32) (Scalar.remsi (Scalar.divsi (Dev.word d) 1#32) 8#32)) =
      BitVec.ofNat 32 (if v.toNat / 8192 = d.val then 1 else 0) := by
  have h := cmp_iff d v hv
  split
  next h' => rw [h.mpr h']; decide
  next h' =>
    rcases BitVec.eq_zero_or_eq_one (Scalar.cmpi .eq (Scalar.shrui v 13#32) (Scalar.remsi (Scalar.divsi (Dev.word d) 1#32) 8#32)) with h0 | h1
    · rw [h0]; decide
    · exact absurd (h.mp h1) h'

theorem cond1_iff (d : Dev nD) (v : BitVec 32) (hv : v.toNat < 65536) : k0_cond1 d v = 1#1 ↔ v.toNat / 8192 = d.val := by
  unfold k0_cond1
  dsimp only
  rw [cmp_word d v hv]
  split
  next h' => exact ⟨fun _ => h', fun _ => by decide⟩
  next h' => exact ⟨fun h => absurd h (by decide), fun h => absurd h h'⟩

theorem off5_eq (d : Dev nD) (v : BitVec 32) (hv : v.toNat < 65536) (h : v.toNat / 8192 = d.val) :
    k0_off5 d v = ![8 * (v.toNat - 8192 * d.val), 0] := by
  have hd : d.val < 8 := d.isLt
  have h8 : Affine.IsInt (Scalar.muli (Scalar.remsi (Scalar.divsi (Dev.word d) 1#32) 8#32) 8192#32) (8192 * d.val : ℤ) :=
    Affine.muli (me_int d) (Affine.ofNat 8192 ⟨rfl, by omega⟩) (by omega)
  have hvv : Affine.IsInt v (v.toNat : ℤ) := by
    have := Affine.ofNat (e := (v.toNat : ℤ)) v.toNat ⟨rfl, by omega⟩
    rwa [BitVec.ofNat_toNat, BitVec.setWidth_eq] at this
  have hs := Affine.subi (e := ((v.toNat - 8192 * d.val : ℕ) : ℤ)) hvv h8 (by omega)
  have hm := Affine.muli (e := ((8 * (v.toNat - 8192 * d.val) : ℕ) : ℤ)) hs (Affine.ofNat (e := 8) 8 ⟨rfl, by omega⟩) (by omega)
  unfold k0_off5
  dsimp only
  exact Affine.vec_cons hm (by omega) rfl

theorem off7_eq (d : Dev nD) (v21 : BitVec 32) (j : Fin (k0_t5_loop v21).trips) (hj : j.val < 12) :
    k0_off7 d v21 j = ![8 * (384 * d.val + 32 * j.val), 0] := by
  have hd : d.val < 8 := d.isLt
  have hi : Affine.IsInt (Scf.iv 0#32 1#32 j.val) (j.val : ℤ) :=
    Affine.iv (Affine.ofNat (e := 0) 0 ⟨rfl, by omega⟩) (Affine.ofNat (e := 1) 1 ⟨rfl, by omega⟩) j.val (by omega)
  have h1 := Affine.muli (e := (384 * d.val : ℤ)) (me_int d) (Affine.ofNat (e := 384) 384 ⟨rfl, by omega⟩) (by omega)
  have h2 := Affine.muli (e := (32 * j.val : ℤ)) hi (Affine.ofNat (e := 32) 32 ⟨rfl, by omega⟩) (by omega)
  have h3 := Affine.addi (e := (384 * d.val + 32 * j.val : ℤ)) h1 h2 (by omega)
  have h4 := Affine.muli (e := ((8 * (384 * d.val + 32 * j.val) : ℕ) : ℤ)) h3 (Affine.ofNat (e := 8) 8 ⟨rfl, by omega⟩) (by omega)
  unfold k0_off7
  dsimp only
  exact Affine.vec_cons h4 (by omega) rfl

theorem off8_eq (v21 : BitVec 32) (j : Fin (k0_t5_loop v21).trips) (hj : j.val < 12) :
    k0_off8 v21 j = ![256 * j.val, 0] := by
  have hi : Affine.IsInt (Scf.iv 0#32 1#32 j.val) (j.val : ℤ) :=
    Affine.iv (Affine.ofNat (e := 0) 0 ⟨rfl, by omega⟩) (Affine.ofNat (e := 1) 1 ⟨rfl, by omega⟩) j.val (by omega)
  have h2 := Affine.muli (e := (32 * j.val : ℤ)) hi (Affine.ofNat (e := 32) 32 ⟨rfl, by omega⟩) (by omega)
  have h4 := Affine.muli (e := ((256 * j.val : ℕ) : ℤ)) h2 (Affine.ofNat (e := 8) 8 ⟨rfl, by omega⟩) (by omega)
  unfold k0_off8
  dsimp only
  exact Affine.vec_cons h4 (by omega) rfl

theorem off13_eq (v : BitVec 32) (k : ℕ) (hv : v.toNat < 65536) (hk : k ≤ 1024) :
    k0_off13 v (BitVec.ofNat 32 k) = ![8 * (384 * (v.toNat / 8192) + k), 0] := by
  have ha : Affine.IsInt (Scalar.shrui v 13#32) ((v.toNat / 8192 : ℕ) : ℤ) := by
    rw [shr_eq]; exact Affine.ofNat _ ⟨rfl, by omega⟩
  have h1 := Affine.muli (e := ((384 * (v.toNat / 8192) : ℕ) : ℤ)) ha (Affine.ofNat (e := 384) 384 ⟨rfl, by omega⟩) (by omega)
  have h3 := Affine.addi (e := ((384 * (v.toNat / 8192) + k : ℕ) : ℤ)) h1 (Affine.ofNat (e := k) k ⟨rfl, by omega⟩) (by omega)
  have h4 := Affine.muli (e := ((8 * (384 * (v.toNat / 8192) + k) : ℕ) : ℤ)) h3 (Affine.ofNat (e := 8) 8 ⟨rfl, by omega⟩) (by omega)
  unfold k0_off13
  dsimp only
  exact Affine.vec_cons (Affine.indexCast h4) (by omega) rfl

theorem inb1 {off : Fin 1 → ℕ} {a : ℕ} (h : off = ![a]) (ha : a < 8) : ∀ i, off i + S1.size i ≤ S8.size i := by
  subst h; intro i; fin_cases i; simpa using Nat.le_of_lt_succ ha

theorem inb2 {R n a : ℕ} {off : Fin 2 → ℕ} (h : off = ![a, 0]) (ha : a + n ≤ R) :
    ∀ i, off i + ![n, 128] i ≤ ![R, 128] i := by
  subst h; intro i; fin_cases i
  · simpa using ha
  · simp

theorem chk1 (d : Dev nD) (n : ℕ) (v : BitVec 32) (hv : v.toNat < 65536) (hn : v.toNat / 8192 = d.val → n < 1024) :
    k0_chk1 d (BitVec.ofNat 32 n) v :=
  ⟨inb1 (off2_eq v) (by omega), fun h => by
    have := hn ((cond1_iff d v hv).mp h)
    exact inb2 (off4_eq n (by omega)) (by omega)⟩

theorem chk2 (d : Dev nD) (v : BitVec 32) (hv : v.toNat < 65536) : k0_chk2 d v v := fun h => by
  have h' := (cond1_iff d v hv).mp h
  exact inb2 (off5_eq d v hv h') (by omega)

theorem chk5 (v : BitVec 32) (hv : v.toNat < 65536) : k0_chk5 v := inb1 (off12_eq v) (by omega)

theorem chk6 (v : BitVec 32) (k : ℕ) (hv : v.toNat < 65536) (hk : k < 384) : k0_chk6 v (BitVec.ofNat 32 k) :=
  inb2 (off13_eq v k hv (by omega)) (by omega)

theorem words2 {R n a : ℕ} {off : Fin 2 → ℕ} (h : off = ![a, 0]) (ha : 2 ∣ a) (hn : 2 ∣ n)
    (inb : ∀ i, off i + ![n, 128] i ≤ ![R, 128] i) :
    (Rect.unit (s := (⟨2, ![R, 128]⟩ : Shape)) off ![n, 128] inb).WholeWords (EltTy.packing .bf16) := by
  subst h
  exact Affine.words_of_packed (Affine.packed_dvd (s := ⟨2, ![R, 128]⟩) (p := 2) (of_decide_eq_true rfl) ha hn)

/-- The chunks of 32 slots that hold `n` slots, as the kernel computes their number. -/
theorem t3_trips : ∀ n : Fin 385, (k0_t3_loop (BitVec.ofNat 32 n.val)).trips = n.val ∧ (k0_t3_loop (BitVec.ofNat 32 n.val)).OK := by decide +kernel
theorem t4_trips : ∀ n : Fin 385, (k0_t4_loop (BitVec.ofNat 32 n.val)).trips = 0 ∧ (k0_t4_loop (BitVec.ofNat 32 n.val)).OK := by decide +kernel
theorem t5_trips : ∀ n : Fin 385, (k0_t5_loop (BitVec.ofNat 32 n.val)).trips = (n.val + 31) / 32 ∧ (k0_t5_loop (BitVec.ofNat 32 n.val)).OK := by decide +kernel
theorem t6_trips : ∀ n : Fin 385, (k0_t6_loop (BitVec.ofNat 32 n.val)).trips = 0 ∧ (k0_t6_loop (BitVec.ofNat 32 n.val)).OK := by decide +kernel
theorem t7_trips : ∀ n : Fin 385, (k0_t7_loop (BitVec.ofNat 32 n.val)).trips = (n.val + 31) / 32 ∧ (k0_t7_loop (BitVec.ofNat 32 n.val)).OK := by decide +kernel
theorem t8_trips : ∀ n : Fin 385, (k0_t8_loop (BitVec.ofNat 32 n.val)).trips = 0 ∧ (k0_t8_loop (BitVec.ofNat 32 n.val)).OK := by decide +kernel
theorem t9_trips : ∀ n : Fin 97, (k0_t9_loop (BitVec.ofNat 32 n.val)).trips = n.val := by decide +kernel
theorem t10_trips : ∀ n : Fin 97, (k0_t10_loop (BitVec.ofNat 32 n.val)).trips = 0 := by decide +kernel
theorem t1_trips : k0_t1_loop.trips = 1024 := by decide +kernel
theorem t2_trips : k0_t2_loop.trips = 8 := by decide +kernel
theorem t11_trips : k0_t11_loop.trips = 1024 := by decide +kernel

theorem chk3 (d : Dev nD) (n : ℕ) (hn : n ≤ 384) : k0_chk3 d (BitVec.ofNat 32 n) := by
  have hd : d.val < 8 := d.isLt
  have t3 := t3_trips ⟨n, by omega⟩
  have t4 := t4_trips ⟨n, by omega⟩
  have t5 := t5_trips ⟨n, by omega⟩
  have t6 := t6_trips ⟨n, by omega⟩
  have t7 := t7_trips ⟨n, by omega⟩
  have t8 := t8_trips ⟨n, by omega⟩
  dsimp only at t3 t4 t5 t6 t7 t8
  have hj : ∀ j : Fin (k0_t5_loop (BitVec.ofNat 32 n)).trips, j.val < 12 := fun j => by
    have := lt_of_lt_of_eq j.isLt t5.1; omega
  have no6 : ∀ j : Fin (k0_t6_loop (BitVec.ofNat 32 n)).trips, False := fun j => by
    have := lt_of_lt_of_eq j.isLt t6.1; omega
  refine ⟨t3.2, t4.2, t5.2, ?_, ?_, ?_, ?_, t6.2, ?_, ?_, ?_, ?_, t7.2, t8.2⟩
  · intro j; have := hj j; exact inb2 (off7_eq d _ j this) (by omega)
  · intro j; have := hj j; exact inb2 (off8_eq _ j this) (by omega)
  · intro j h; exact words2 (off8_eq _ j (hj j)) (by omega) (by decide) h
  · intro j h; exact words2 (off7_eq d _ j (hj j)) (by omega) (by decide) h
  · intro j; exact (no6 j).elim
  · intro j; exact (no6 j).elim
  · intro j; exact (no6 j).elim
  · intro j; exact (no6 j).elim

/-- The owned count's next value. -/
theorem own_step (d : Dev nD) (n : ℕ) (v : BitVec 32) (hv : v.toNat < 65536) :
    Scalar.addi (BitVec.ofNat 32 n) (Scalar.extui (Scalar.cmpi .eq (Scalar.shrui v 13#32) (Scalar.remsi (Scalar.divsi (Dev.word d) 1#32) 8#32))) =
      BitVec.ofNat 32 (n + if v.toNat / 8192 = d.val then 1 else 0) := by
  rw [cmp_word d v hv]
  exact (BitVec.ofNat_add n _).symm

end Cert.KernelIdeal.Lookup
-- ==== Proof.KI.Sched.lean ====
/-
  The protocol of the distributed lookup, as one round on each of a device's four cells.

  * the barrier cell: one unit from each of the seven peers; peer `pr c i` hands device `c` the rows of ITS receive buffer
    that device `c` is going to write, and that its receive cell is at its first round;
  * the gather cell (local): one copy of 8 rows from the table per own token; what lands is the row of that token;
  * the send cell (local): per chunk of 256 staged rows and per peer the share of the chunk the copy read;
  * the receive cell: per sender and chunk the rows that landed, at the sender's packed rows; the device's own copy also
    brings back the share of the chunk it read.
-/
module

public import proofs.«01_k».proof.Proof.KI.Words
public import proofs.«01_k».proof.Proof.Count
public import proofs.«01_k».proof.Proof.Geo
public import proofs.«01_k».proof.Proof.Gen.KernelIdeal.Launch
public import Idealize.ShloMosaic.Lib.Pipeline.Regions
public import Idealize.ShloMosaic.Lib.Pipeline.Kit
public import Idealize.SL.BI.BigOpNat
public import Idealize.ShloMosaic.Lib.Rounds
public import Idealize.ShloMosaic.Lib.Transfers
public import Idealize.ShloMosaic.Lib.StableHlo
public import Idealize.ShloMosaic.Lib.Tactic
public import Idealize.ShloMosaic.PureOps
public import Idealize.ShloMosaic.Lib.Pipeline.RegionTalk
public import Idealize.ShloMosaic.Lib.SparseCore.ProtocolKit
public import Idealize.ShloMosaic.Harness.Basic

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

/-- A duty: a place (a peer's offset, or a sender) and a chunk or slot number. -/
abbrev DD : Type := (_ : Fin 8) × ℕ

abbrev UU : Type := UR sig nD τ × URounds (GSem nD τ sig) DD

local notation "𝕄" => MT nD τ sig Unit (Elt F) ℕ UU ℕ

abbrev EP : Emb (UR sig nD τ) (MT nD τ sig Unit (Elt F) ℕ UU ℕ) := embL
abbrev ER : Emb (URounds (GSem nD τ sig) DD) (MT nD τ sig Unit (Elt F) ℕ UU ℕ) := embR

/-! ## The data -/

/-- What the devices hold: each its copy of the token words, and its block of the table as rows of 128 lanes. -/
structure Data (F : FTy → Type) where
  ids : Dev nD → ℕ → BitVec 32
  tab : Dev nD → S65536x128.Idx → F .f32

/-- The owner of token `t`, as device `d`'s words have it. -/
def own (G : Data F) (d : Dev nD) (t : ℕ) : ℕ := (G.ids d t).toNat / 8192
/-- How many tokens device `s` owns, by its own words. -/
def nOwn (G : Data F) (s : Dev nD) : ℕ := cnt (own G s) 1024 s.val
/-- How many chunks of 32 slots device `s` sends. -/
def nc (G : Data F) (s : Dev nD) : ℕ := nch (own G s) s.val

structure Good (G : Data F) : Prop where
  range : ∀ d t, t < 1024 → (G.ids d t).toNat < 65536
  cap : ∀ d, nOwn G d ≤ 384
  agree : ∀ d (s : Dev nD), cnt (own G d) 1024 s.val = nOwn G s

/-- Row `r`, lane `l` of device `d`'s table. -/
def tabAt (G : Data F) (d : Dev nD) (r l : ℕ) : F .f32 :=
  G.tab d (ix2 (R := 65536) ⟨r % 65536, Nat.mod_lt _ (by omega)⟩ ⟨l % 128, Nat.mod_lt _ (by omega)⟩)
/-- Row `r`, lane `l` of what device `d` gathers: slot `r / 8` is its `r / 8`-th own token. -/
def gv (G : Data F) (d : Dev nD) (r l : ℕ) : F .f32 :=
  tabAt G d (8 * ((G.ids d (tok (own G d) d.val (r / 8))).toNat - 8192 * d.val) + r % 8) l
def tr (a : F .f32) : F .bf16 := FloatOps.truncf .bf16 bitsLt_bf16_f32 a
/-- The same packed. -/
def sv (G : Data F) (d : Dev nD) (r l : ℕ) : F .bf16 := tr (gv G d r l)
/-- The owner as a device. -/
def ownD (G : Data F) (d : Dev nD) (t : ℕ) : Dev nD := ⟨own G d t % 8, Nat.mod_lt _ (by decide)⟩
/-- Row `r`, lane `l` of device `d`'s result. -/
def outv (G : Data F) (d : Dev nD) (r l : ℕ) : F .bf16 :=
  sv G (ownD G d (r / 8)) (8 * cnt (own G d) (r / 8) (own G d (r / 8)) + r % 8) l

theorem own_lt {G : Data F} (hG : Good G) (d : Dev nD) {t : ℕ} (ht : t < 1024) : own G d t < 8 := by
  have := hG.range d t ht; unfold own; omega
theorem ownD_val {G : Data F} (hG : Good G) (d : Dev nD) {t : ℕ} (ht : t < 1024) : (ownD G d t).val = own G d t :=
  Nat.mod_eq_of_lt (own_lt hG d ht)
theorem nc_le {G : Data F} (hG : Good G) (d : Dev nD) : nc G d ≤ 12 := nch_le _ _ (hG.cap d)
theorem nc_eq (G : Data F) (d : Dev nD) : nc G d = (nOwn G d + 31) / 32 := rfl

/-! ## Devices and cells -/

/-- The peer at offset `i + 1`; at `i = 7` the device itself. -/
def pr (c : Dev nD) (i : Fin 8) : Dev nD := ⟨(c.val + (i.val + 1)) % 8, Nat.mod_lt _ (by decide)⟩
/-- The offset from the peer back. -/
def bk (i : Fin 8) : Fin 8 := ⟨(14 - i.val) % 8, Nat.mod_lt _ (by decide)⟩
theorem pr_bk : ∀ (c : Dev nD) (i : Fin 8), pr (pr c i) (bk i) = c := by decide
theorem bk_bk : ∀ i : Fin 8, bk (bk i) = i := by decide
theorem pr_seven : ∀ c : Dev nD, pr c 7 = c := by decide
theorem bk_ne : ∀ i : Fin 8, i ≠ 7 → bk i ≠ 7 := by decide
theorem pr_ne : ∀ (c : Dev nD) (i : Fin 8), i ≠ 7 → c ≠ pr c i := by decide
theorem pr_inj : ∀ (c : Dev nD) (i j : Fin 8), pr c i = pr c j → i = j := by decide
theorem pr_surj : ∀ (c s : Dev nD), ∃ i, pr c i = s := by decide

abbrev barS : Sem sig := barrier0
abbrev gatS : DmaSem sig := cc0_scratch5.sem
abbrev sendS : DmaSem sig := cc0_scratch6.sem
abbrev recvS : DmaSem sig := cc0_scratch7.sem

abbrev barCell (c : Dev nD) : GSem nD τ sig := ((c : Thread nD τ), .reg barS)
abbrev gatCell (c : Dev nD) : GSem nD τ sig := ((c : Thread nD τ), .dma gatS)
abbrev sendCell (c : Dev nD) : GSem nD τ sig := ((c : Thread nD τ), .dma sendS)
abbrev recvCell (c : Dev nD) : GSem nD τ sig := ((c : Thread nD τ), .dma recvS)

theorem gat_ne_bar : (SemLoc.dma gatS : SemLoc sig) ≠ .reg barS := fun h => by cases h
theorem send_ne_bar : (SemLoc.dma sendS : SemLoc sig) ≠ .reg barS := fun h => by cases h
theorem recv_ne_bar : (SemLoc.dma recvS : SemLoc sig) ≠ .reg barS := fun h => by cases h
theorem gat_ne_recv : (SemLoc.dma gatS : SemLoc sig) ≠ .dma recvS := by decide
theorem send_ne_recv : (SemLoc.dma sendS : SemLoc sig) ≠ .dma recvS := by decide
theorem gat_ne_send : (SemLoc.dma gatS : SemLoc sig) ≠ .dma sendS := by decide
theorem send_ne_gat : (SemLoc.dma sendS : SemLoc sig) ≠ .dma gatS := by decide
theorem recv_ne_gat : (SemLoc.dma recvS : SemLoc sig) ≠ .dma gatS := by decide

/-! ## Rows held -/

/-- Rows `a … a+n-1` of device `c`'s gather, stage and receive buffers. -/
abbrev gatPt (c : Dev nD) (a n : ℕ) (f : (cc0_scratch0 : Ref sig .tc).ty.Contents (Elt F)) : sProp 𝕄 :=
  ((c : Thread nD τ).loc cc0_scratch0) ↦[rows 8192 a n]{fullShare} f
abbrev stgPt (c : Dev nD) (a n : ℕ) (q : PosShare TreeShare) (f : (cc0_scratch1 : Ref sig .tc).ty.Contents (Elt F)) : sProp 𝕄 :=
  ((c : Thread nD τ).loc cc0_scratch1) ↦[rows 8192 a n]{q} f
abbrev rcvPt (c : Dev nD) (a n : ℕ) (f : (cc0_scratch2 : Ref sig .tc).ty.Contents (Elt F)) : sProp 𝕄 :=
  ((c : Thread nD τ).loc cc0_scratch2) ↦[rows 24576 a n]{fullShare} f

/-- The share of a staged chunk the copy to offset `i` reads; what remains goes to the local copy. -/
def sh (i : Fin 8) : PosShare TreeShare := if i.val < 7 then shareTokN fullShare i.val else shareDrop fullShare 7

/-- The first row of sender `s`'s chunk `j` in a receive buffer. -/
abbrev cb (s : Dev nD) (j : ℕ) : ℕ := 8 * (384 * s.val + 32 * j)

def GatOK (G : Data F) (c : Dev nD) (k : ℕ) (g : (cc0_scratch0 : Ref sig .tc).ty.Contents (Elt F)) : Prop :=
  ∀ x : S8192x128.Idx, x ∈ rows 8192 (8 * k) 8 → g x = gv G c (x 0).val (x 1).val
def StgOK (G : Data F) (c : Dev nD) (g : (cc0_scratch1 : Ref sig .tc).ty.Contents (Elt F)) : Prop :=
  ∀ x : S8192x128.Idx, (x 0).val < 8 * nOwn G c → g x = sv G c (x 0).val (x 1).val
def RcvOK (G : Data F) (s : Dev nD) (j : ℕ) (g : (cc0_scratch2 : Ref sig .tc).ty.Contents (Elt F)) : Prop :=
  ∀ x : S24576x128.Idx, x ∈ rows 24576 (cb s j) 256 → (x 0).val < 3072 * s.val + 8 * nOwn G s →
    g x = sv G s ((x 0).val - 3072 * s.val) (x 1).val

/-! ## The payloads and the schedule -/

variable (G : Data F)

def gatPay (c : Dev nD) (k : ℕ) : sProp 𝕄 := iprop(∃ g, ⌜GatOK G c k g⌝ ∗ gatPt c (8 * k) 8 g)
def sendPay (c : Dev nD) (i : Fin 8) (j : ℕ) : sProp 𝕄 := iprop(∃ f, stgPt c (256 * j) 256 (sh i) f)
def landPay (d s : Dev nD) (j : ℕ) : sProp 𝕄 := iprop(∃ g, ⌜RcvOK G s j g⌝ ∗ rcvPt d (cb s j) 256 g)
def recvPay (d s : Dev nD) (j : ℕ) : sProp 𝕄 :=
  iprop(landPay G d s j ∗ (if s = d then sendPay d 7 j else iprop(emp)))
/-- The rows of device `d`'s receive buffer that device `s` writes. -/
def region (d s : Dev nD) : sProp 𝕄 := bigSep (Finset.range (nc G s)) fun j => iprop(∃ g, rcvPt d (cb s j) 256 g)
def barPay (c : Dev nD) (i : Fin 8) : sProp 𝕄 := iprop(reached ER (recvCell (pr c i)) 0 ∗ region G (pr c i) c)

/-- The offsets of the seven peers. -/
abbrev peers : Finset (Fin 8) := Finset.univ.erase 7
theorem mem_peers {i : Fin 8} : i ∈ peers ↔ i ≠ 7 := by simp [peers]

def rd : Rounds.Schedule (GSem nD τ sig) DD 𝕄 where
  duties g r := if r = 0 ∧ g.1.2 = .tc then
      if g.2 = .reg barS then peers.sigma fun _ => {0}
      else if g.2 = .dma recvS then (Finset.univ : Finset (Fin 8)).sigma fun s => Finset.range (nc G s)
      else if g.2 = .dma sendS then peers.sigma fun _ => Finset.range (nc G g.1.1)
      else if g.2 = .dma gatS then ({0} : Finset (Fin 8)).sigma fun _ => Finset.range (nOwn G g.1.1)
      else ∅
    else ∅
  unitless _ := False
  amount g _ _ := if g.2 = .reg barS then 1 else if g.2 = .dma gatS then 128 else 2048
  payload g _ d :=
    if g.2 = .reg barS then barPay G g.1.1 d.1
    else if g.2 = .dma recvS then recvPay G g.1.1 d.1 d.2
    else if g.2 = .dma sendS then sendPay g.1.1 d.1 d.2
    else if g.2 = .dma gatS then gatPay G g.1.1 d.2
    else iprop(emp)
  amount_pos g _ _ _ := by
    show 0 < if g.2 = .reg barS then 1 else if g.2 = .dma gatS then 128 else 2048
    split
    · exact Nat.one_pos
    · split <;> omega

instance rd_payload_storable (g : GSem nD τ sig) (r : ℕ) (d : DD) :
    BI.Storable (upEmb : UEmb _ 𝕄) ((rd (F := F) G).payload g r d) := by
  show BI.Storable upEmb (if g.2 = .reg barS then barPay G g.1.1 d.1
    else if g.2 = .dma recvS then recvPay G g.1.1 d.1 d.2
    else if g.2 = .dma sendS then sendPay g.1.1 d.1 d.2
    else if g.2 = .dma gatS then gatPay G g.1.1 d.2
    else iprop(emp))
  unfold barPay recvPay landPay region sendPay gatPay
  (repeat' split) <;> infer_instance

section Tables

variable (c : Dev nD)

theorem duties_bar : (rd G).duties (barCell c) 0 = peers.sigma fun _ => {0} := by
  dsimp only [rd]; rw [if_pos ⟨rfl, rfl⟩, if_pos rfl]
theorem duties_recv : (rd G).duties (recvCell c) 0 = (Finset.univ : Finset (Fin 8)).sigma fun s => Finset.range (nc G s) := by
  dsimp only [rd]; rw [if_pos ⟨rfl, rfl⟩, if_neg recv_ne_bar, if_pos rfl]
theorem duties_send : (rd G).duties (sendCell c) 0 = peers.sigma fun _ => Finset.range (nc G c) := by
  dsimp only [rd]; rw [if_pos ⟨rfl, rfl⟩, if_neg send_ne_bar, if_neg send_ne_recv, if_pos rfl]
theorem duties_gat : (rd G).duties (gatCell c) 0 = ({0} : Finset (Fin 8)).sigma fun _ => Finset.range (nOwn G c) := by
  dsimp only [rd]; rw [if_pos ⟨rfl, rfl⟩, if_neg gat_ne_bar, if_neg gat_ne_recv, if_neg gat_ne_send, if_pos rfl]
theorem duties_later (g : GSem nD τ sig) : ∀ r, 1 ≤ r → (rd G).duties g r = ∅ := fun r hr => by
  dsimp only [rd]; rw [if_neg (fun h => by omega)]

theorem amount_bar (d : DD) : (rd G).amount (barCell c) 0 d = 1 := by dsimp only [rd]; exact if_pos rfl
theorem amount_gat (d : DD) : (rd G).amount (gatCell c) 0 d = 128 := by
  dsimp only [rd]; rw [if_neg gat_ne_bar, if_pos rfl]
theorem amount_send (d : DD) : (rd G).amount (sendCell c) 0 d = 2048 := by
  dsimp only [rd]; rw [if_neg send_ne_bar, if_neg send_ne_gat]
theorem amount_recv (d : DD) : (rd G).amount (recvCell c) 0 d = 2048 := by
  dsimp only [rd]; rw [if_neg recv_ne_bar, if_neg recv_ne_gat]

theorem payload_bar (d : DD) : (rd G).payload (barCell c) 0 d = barPay G c d.1 := by dsimp only [rd]; exact if_pos rfl
theorem payload_recv (d : DD) : (rd G).payload (recvCell c) 0 d = recvPay G c d.1 d.2 := by
  dsimp only [rd]; rw [if_neg recv_ne_bar, if_pos rfl]
theorem payload_send (d : DD) : (rd G).payload (sendCell c) 0 d = sendPay c d.1 d.2 := by
  dsimp only [rd]; rw [if_neg send_ne_bar, if_neg send_ne_recv, if_pos rfl]
theorem payload_gat (d : DD) : (rd G).payload (gatCell c) 0 d = gatPay G c d.2 := by
  dsimp only [rd]; rw [if_neg gat_ne_bar, if_neg gat_ne_recv, if_neg gat_ne_send, if_pos rfl]

theorem expect_bar : (rd G).expect (barCell c) 0 = 7 := by
  unfold Schedule.expect Schedule.amountOf
  rw [duties_bar, Finset.sum_congr rfl fun d _ => amount_bar G c d]; decide
/-- The chunks of all senders. -/
def tot : ℕ := ∑ s : Dev nD, nc G s
theorem expect_recv : (rd G).expect (recvCell c) 0 = tot G * 2048 := by
  unfold Schedule.expect Schedule.amountOf
  rw [duties_recv, Finset.sum_congr rfl fun d _ => amount_recv G c d, Finset.sum_const, Finset.card_sigma, smul_eq_mul]
  simp only [Finset.card_range]; rfl
theorem expect_send : (rd G).expect (sendCell c) 0 = nc G c * (7 * 2048) := by
  unfold Schedule.expect Schedule.amountOf
  rw [duties_send, Finset.sum_congr rfl fun d _ => amount_send G c d, Finset.sum_const, Finset.card_sigma, smul_eq_mul]
  simp only [Finset.card_range, Finset.sum_const, smul_eq_mul]
  rw [show (peers).card = 7 by decide]; ring
theorem expect_gat : (rd G).expect (gatCell c) 0 = nOwn G c * 128 := by
  unfold Schedule.expect Schedule.amountOf
  rw [duties_gat, Finset.sum_congr rfl fun d _ => amount_gat G c d, Finset.sum_const, Finset.card_sigma, smul_eq_mul]
  simp only [Finset.card_range, Finset.sum_const, smul_eq_mul, Finset.card_singleton, one_mul]

theorem all_bar : bigSep ((rd G).duties (barCell c) 0) (fun d => (rd G).payload (barCell c) 0 d) = bigSep peers fun i => barPay G c i := by
  rw [duties_bar, Pipeline.bigSep_sigma, bigSep_congr fun i _ => (bigSep_singleton (i := 0))]
  exact bigSep_congr fun i _ => payload_bar G c _
theorem all_recv : bigSep ((rd G).duties (recvCell c) 0) (fun d => (rd G).payload (recvCell c) 0 d)
    = bigSep Finset.univ fun s : Dev nD => bigSep (Finset.range (nc G s)) fun j => recvPay G c s j := by
  rw [duties_recv, Pipeline.bigSep_sigma]
  exact bigSep_congr fun i _ => bigSep_congr fun j _ => payload_recv G c _
theorem all_send : bigSep ((rd G).duties (sendCell c) 0) (fun d => (rd G).payload (sendCell c) 0 d)
    = bigSep peers fun i => bigSep (Finset.range (nc G c)) fun j => sendPay c i j := by
  rw [duties_send, Pipeline.bigSep_sigma]
  exact bigSep_congr fun i _ => bigSep_congr fun j _ => payload_send G c _
theorem all_gat : bigSep ((rd G).duties (gatCell c) 0) (fun d => (rd G).payload (gatCell c) 0 d)
    = bigSep (Finset.range (nOwn G c)) fun k => gatPay G c k := by
  rw [duties_gat, Pipeline.bigSep_sigma, bigSep_singleton]
  exact bigSep_congr fun j _ => payload_gat G c _

end Tables

/-! ## What each device owes at launch; the levels -/

/-- The credit of the chunks from `j` on of the copies to the peers from offset `i` on. -/
def owedRecv (c : Dev nD) (i : Fin 8) (n : ℕ) : CellTallies nD τ sig Unit := tallyAt (recvCell (pr c i)) () (n * 2048)
/-- Before chunk `j`. -/
def owedFrom (c : Dev nD) (j : ℕ) : CellTallies nD τ sig Unit := ∑ i ∈ peers, owedRecv c i (nc G c - j)
/-- The barrier units still to be signalled. -/
def owedBar (c : Dev nD) (i : Fin 8) : CellTallies nD τ sig Unit := tallyAt (barCell (pr c i)) () 1
def O₀ (c : Dev nD) : CellTallies nD τ sig Unit := owedFrom G c 0 + ∑ i ∈ peers, owedBar c i

def L (g : GSem nD τ sig) : Finset Unit := if g.1.2 = .tc then {()} else ∅
/-- Barrier cells at 1, receive cells at 2, the rest at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl

theorem sum_pos {T : Type} {s : Finset T} {f : T → CellTallies nD τ sig Unit} {g : GSem nD τ sig} {u : Unit} (h : 0 < (∑ i ∈ s, f i) g u) :
    ∃ i ∈ s, 0 < f i g u := by
  classical
  induction s using Finset.induction_on with
  | empty => exact absurd h (by rw [Finset.sum_empty]; exact Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨i, hi, h⟩ := ih h
      exact ⟨i, Finset.mem_insert_of_mem hi, h⟩
theorem tally_pos {g' g : GSem nD τ sig} {n : ℕ} {u : Unit} (h : 0 < (tallyAt g' () n : CellTallies nD τ sig Unit) g u) : g = g' := by
  rw [tallyAt_apply] at h
  split at h
  · next hg => exact hg.1
  · exact absurd h (Nat.lt_irrefl 0)
theorem owedFrom_pos {c : Dev nD} {j : ℕ} {g : GSem nD τ sig} {u : Unit} (h : 0 < owedFrom G c j g u) : ∃ i, g = recvCell (pr c i) := by
  obtain ⟨i, -, h⟩ := sum_pos h
  exact ⟨i, tally_pos h⟩
theorem O₀_pos {c : Dev nD} {g : GSem nD τ sig} {u : Unit} (h : 0 < O₀ G c g u) : (∃ i, g = recvCell (pr c i)) ∨ ∃ i, g = barCell (pr c i) := by
  unfold O₀ at h
  rw [Pi.add_apply, Finsupp.add_apply] at h
  rcases Nat.add_pos_iff_pos_or_pos.mp h with h | h
  · exact .inl (owedFrom_pos G h)
  · obtain ⟨i, -, h⟩ := sum_pos h
    exact .inr ⟨i, tally_pos h⟩

/-- A wait on a cell below the receive cells, owing receive credit only. -/
theorem mayWait_low (c : Dev nD) (sm : SemLoc sig) (j : ℕ) (hl : lv ((c : Thread nD τ), sm) () < 2) :
    (levAts L lv : sProp 𝕄) ⊢ MayWait (c : Thread nD τ) sm () (owedFrom G c j) :=
  MayOwe.of_cut (L := L) (lev := lv) (lv ((c : Thread nD τ), sm) ()) (fun p hp => by rw [Finset.mem_singleton.mp hp, L_tc]; exact Finset.mem_singleton_self _)
    (fun g u hg => by
      obtain ⟨i, rfl⟩ := owedFrom_pos G hg
      rw [L_tc]; exact Finset.mem_singleton_self _)
    (fun p hp => by rw [Finset.mem_singleton.mp hp])
    (fun g u hg => by
      obtain ⟨i, rfl⟩ := owedFrom_pos G hg
      refine lt_of_lt_of_eq hl ?_
      show 2 = lv (recvCell (pr c i)) u
      dsimp only [lv]; rw [if_neg recv_ne_bar, if_pos rfl])
theorem mayWait_bar (c : Dev nD) : (levAts L lv : sProp 𝕄) ⊢ MayWait (c : Thread nD τ) (.reg barS) () (owedFrom G c 0) :=
  mayWait_low G c _ 0 (by dsimp only [lv]; rw [if_pos rfl]; omega)
theorem mayWait_gat (c : Dev nD) : (levAts L lv : sProp 𝕄) ⊢ MayWait (c : Thread nD τ) (.dma gatS) () (owedFrom G c 0) :=
  mayWait_low G c _ 0 (by dsimp only [lv]; rw [if_neg gat_ne_bar, if_neg gat_ne_recv]; omega)

/-- Past the last chunk nothing is owed. -/
theorem owedFrom_done (c : Dev nD) (j : ℕ) (h : nc G c ≤ j) : owedFrom G c j = 0 := by
  unfold owedFrom owedRecv
  refine Finset.sum_eq_zero fun i _ => ?_
  rw [Nat.sub_eq_zero_of_le h, Nat.zero_mul, tallyAt_zero]

/-- The credit of one chunk to the peers from offset `k` on. -/
def owedMid (c : Dev nD) (j k : ℕ) : CellTallies nD τ sig Unit :=
  owedFrom G c (j + 1) + ∑ i ∈ peers.filter (k ≤ ·.val), tallyAt (recvCell (pr c i)) () 2048
theorem owedMid_zero (c : Dev nD) (j : ℕ) (h : j < nc G c) : owedFrom G c j = owedMid G c j 0 := by
  unfold owedMid owedFrom owedRecv
  rw [Finset.filter_true_of_mem fun _ _ => Nat.zero_le _, ← Finset.sum_add_distrib]
  refine Finset.sum_congr rfl fun i _ => ?_
  rw [tallyAt_add]
  congr 1
  rw [show nc G c - j = (nc G c - (j + 1)) + 1 by omega]; ring
theorem owedMid_seven (c : Dev nD) (j : ℕ) : owedMid G c j 7 = owedFrom G c (j + 1) := by
  unfold owedMid
  rw [show peers.filter (7 ≤ ·.val) = ∅ by decide, Finset.sum_empty, add_zero]
theorem owedMid_step (c : Dev nD) (j : ℕ) (i : Fin 8) (hi : i ≠ 7) :
    owedMid G c j i.val = owedMid G c j (i.val + 1) + tallyAt (recvCell (pr c i)) () 2048 := by
  unfold owedMid
  have hf : peers.filter (i.val ≤ ·.val) = insert i (peers.filter (i.val + 1 ≤ ·.val)) := by revert i; decide
  rw [hf, Finset.sum_insert (by simp), add_comm (tallyAt _ _ _), ← add_assoc]

end Cert.KernelIdeal.Lookup

end
-- ==== Proof.KI.Steps.lean ====
/-
  The single steps of the body: a word of a scalar buffer read or written, a wait that drains a cell by a fixed amount.
-/
module

public import proofs.«01_k».proof.Proof.KI.Sched

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Lookup

variable {F : FTy → Type} [FloatOps F]

local notation "𝕄" => MT nD τ sig Unit (Elt F) ℕ UU ℕ

abbrev 𝒱₀ : Variants := Variants.none

/-- The contents of a one-axis word buffer, by position. -/
def wds {n : ℕ} (g : ℕ → BitVec 32) : (⟨1, ![n]⟩ : Shape).Idx → BitVec 32 := fun x => g (x 0).val

theorem wds_congr {n : ℕ} {g g' : ℕ → BitVec 32} (h : ∀ s, s < n → g s = g' s) : (wds g : (⟨1, ![n]⟩ : Shape).Idx → BitVec 32) = wds g' :=
  funext fun x => h _ (x 0).isLt
theorem exists_wds (f : S8.Idx → BitVec 32) : ∃ g, f = wds g :=
  ⟨fun s => f (ix1 (n := 8) ⟨s % 8, Nat.mod_lt _ (by decide)⟩), funext fun x => by
    unfold wds
    congr 1
    exact ix1_eq (n := 8) x _ (Nat.mod_eq_of_lt (x 0).isLt).symm⟩

abbrev idsPt (c : Dev nD) (g : ℕ → BitVec 32) : sProp 𝕄 :=
  ((c : Thread nD τ).loc cc0_stg0_0) ↦{fullShare} (wds g : S1024.Idx → BitVec 32)
abbrev cntPt (c : Dev nD) (g : ℕ → BitVec 32) : sProp 𝕄 :=
  ((c : Thread nD τ).loc cc0_scratch3) ↦{fullShare} (wds g : S8.Idx → BitVec 32)
abbrev posPt (c : Dev nD) (g : ℕ → BitVec 32) : sProp 𝕄 :=
  ((c : Thread nD τ).loc cc0_scratch4) ↦{fullShare} (wds g : S8.Idx → BitVec 32)

section Words
variable (c : Dev nD)

theorem first_val (h : S1.numel = 1) : ∀ a : Fin 1, ((Shape.Idx.first (h.symm ▸ Nat.one_pos) : S1.Idx) a).val = 0 := by
  intro a
  have := ((Shape.Idx.first (h.symm ▸ Nat.one_pos) : S1.Idx) a).isLt
  have h1 : S1.size a = 1 := by fin_cases a; rfl
  omega

theorem ld0 (off : Fin 1 → ℕ) (inb : ∀ i, off i + S1.size i ≤ S1024.size i) (a : ℕ) (h : off = ![a]) (g : ℕ → BitVec 32)
    {α : Type} {Qa : α → sProp 𝕄} {k : BitVec 32 → Prog (TpuEff nD τ sig (Elt F) Λ₀ .tc) α} :
    (idsPt (F := F) c g)
      ⊢ iprop((idsPt c g -∗ wp frame (wpE (defs₀ (F := F)) 𝒱₀ c none) Set.univ (k (g a)) Qa)
        -∗ wp frame (wpE (defs₀ (F := F)) 𝒱₀ c none) Set.univ
          (smemLoad (Memref.whole cc0_stg0_0) (Rect.unit (s := S1024) off S1.size inb) numel1_S1 rfl >>= k) Qa) := by
  simp only [smemLoad, smemLoadElt, Prog.lift, Prog.bind_op, Prog.bind_ret, Prog.pure_eq_ret]
  iintro H Hk
  iapply (wp_load_rect 𝒱₀ (c : Thread nD τ) none Set.univ (m := Memref.whole cc0_stg0_0) (r := Rect.unit (s := S1024) off S1.size inb) (Finset.subset_univ _)) $$ H
  iintro H
  have e : ((Memref.whole cc0_stg0_0).access (Rect.unit (s := S1024) off S1.size inb)).read (Elt F) (wds g : S1024.Idx → BitVec 32)
      (Shape.Idx.first (numel1_S1.symm ▸ Nat.one_pos)) = g a := by
    have ha : a < 1024 := by have := inb 0; subst h; simpa using this
    refine (read_at (Val := Elt F) cc0_stg0_0 (inb := inb) (wds g : S1024.Idx → BitVec 32) _ (x := ix1 (n := 1024) ⟨a, ha⟩) ?_).trans rfl
    intro i
    subst h
    fin_cases i
    exact (congrArg (a + ·) (first_val numel1_S1 0)).symm
  rw [e]
  iapply Hk
  iexact H

theorem ld3 (off : Fin 1 → ℕ) (inb : ∀ i, off i + S1.size i ≤ S8.size i) (a : ℕ) (h : off = ![a]) (g : ℕ → BitVec 32)
    {α : Type} {Qa : α → sProp 𝕄} {k : BitVec 32 → Prog (TpuEff nD τ sig (Elt F) Λ₀ .tc) α} :
    (cntPt (F := F) c g)
      ⊢ iprop((cntPt c g -∗ wp frame (wpE (defs₀ (F := F)) 𝒱₀ c none) Set.univ (k (g a)) Qa)
        -∗ wp frame (wpE (defs₀ (F := F)) 𝒱₀ c none) Set.univ
          (smemLoad (Memref.whole cc0_scratch3) (Rect.unit (s := S8) off S1.size inb) numel1_S1 rfl >>= k) Qa) := by
  simp only [smemLoad, smemLoadElt, Prog.lift, Prog.bind_op, Prog.bind_ret, Prog.pure_eq_ret]
  iintro H Hk
  iapply (wp_load_rect 𝒱₀ (c : Thread nD τ) none Set.univ (m := Memref.whole cc0_scratch3) (r := Rect.unit (s := S8) off S1.size inb) (Finset.subset_univ _)) $$ H
  iintro H
  have e : ((Memref.whole cc0_scratch3).access (Rect.unit (s := S8) off S1.size inb)).read (Elt F) (wds g : S8.Idx → BitVec 32)
      (Shape.Idx.first (numel1_S1.symm ▸ Nat.one_pos)) = g a := by
    have ha : a < 8 := by have := inb 0; subst h; simpa using this
    refine (read_at (Val := Elt F) cc0_scratch3 (inb := inb) (wds g : S8.Idx → BitVec 32) _ (x := ix1 (n := 8) ⟨a, ha⟩) ?_).trans rfl
    intro i
    subst h
    fin_cases i
    exact (congrArg (a + ·) (first_val numel1_S1 0)).symm
  rw [e]
  iapply Hk
  iexact H

/-- A word written at `a`. -/
def put (g : ℕ → BitVec 32) (a : ℕ) (w : BitVec 32) : ℕ → BitVec 32 := fun s => if s = a then w else g s

theorem st3 (off : Fin 1 → ℕ) (inb : ∀ i, off i + S1.size i ≤ S8.size i) (a : ℕ) (h : off = ![a]) (g : ℕ → BitVec 32) (w : BitVec 32)
    {hx hm} {α : Type} {Qa : α → sProp 𝕄} {k : PUnit → Prog (TpuEff nD τ sig (Elt F) Λ₀ .tc) α} :
    (cntPt (F := F) c g)
      ⊢ iprop((cntPt c (put g a w) -∗ wp frame (wpE (defs₀ (F := F)) 𝒱₀ c none) Set.univ (k ⟨⟩) Qa)
        -∗ wp frame (wpE (defs₀ (F := F)) 𝒱₀ c none) Set.univ
          (.op (.store (Memref.whole cc0_scratch3) (Rect.unit (s := S8) off S1.size inb) (fun _ => w) Finset.univ hx hm) k) Qa) := by
  iintro H Hk
  iapply (wp_store 𝒱₀ (c : Thread nD τ) none Set.univ (m := Memref.whole cc0_scratch3) (r := Rect.unit (s := S8) off S1.size inb) (Mk := Finset.univ) (Finset.subset_univ _)) $$ H
  iintro H
  have e : ((Memref.whole cc0_scratch3).access (Rect.unit (s := S8) off S1.size inb)).write (Elt F) (wds g : S8.Idx → BitVec 32) (fun _ => w) Finset.univ
      = (wds (put g a w) : S8.Idx → BitVec 32) := by
    subst h
    funext x
    unfold wds put
    by_cases hxa : (x 0).val = a
    · rw [if_pos hxa]
      refine (write_at (Val := Elt F) cc0_scratch3 (inb := inb) (wds g : S8.Idx → BitVec 32) (fun _ => w) (Shape.Idx.first (numel1_S1.symm ▸ Nat.one_pos)) ?_).trans rfl
      intro i
      fin_cases i
      exact hxa.trans (congrArg (a + ·) (first_val numel1_S1 0)).symm
    · rw [if_neg hxa]
      refine (write_off (Val := Elt F) cc0_scratch3 (inb := inb) (wds g : S8.Idx → BitVec 32) (fun _ => w) ?_).trans rfl
      intro hmem
      have := (Rect.mem_set_unit.mp hmem) 0
      have h1 : S1.size 0 = 1 := rfl
      simp at this
      omega
  rw [e]
  iapply Hk
  iexact H

theorem ld4 (off : Fin 1 → ℕ) (inb : ∀ i, off i + S1.size i ≤ S8.size i) (a : ℕ) (h : off = ![a]) (g : ℕ → BitVec 32)
    {α : Type} {Qa : α → sProp 𝕄} {k : BitVec 32 → Prog (TpuEff nD τ sig (Elt F) Λ₀ .tc) α} :
    (posPt (F := F) c g)
      ⊢ iprop((posPt c g -∗ wp frame (wpE (defs₀ (F := F)) 𝒱₀ c none) Set.univ (k (g a)) Qa)
        -∗ wp frame (wpE (defs₀ (F := F)) 𝒱₀ c none) Set.univ
          (smemLoad (Memref.whole cc0_scratch4) (Rect.unit (s := S8) off S1.size inb) numel1_S1 rfl >>= k) Qa) := by
  simp only [smemLoad, smemLoadElt, Prog.lift, Prog.bind_op, Prog.bind_ret, Prog.pure_eq_ret]
  iintro H Hk
  iapply (wp_load_rect 𝒱₀ (c : Thread nD τ) none Set.univ (m := Memref.whole cc0_scratch4) (r := Rect.unit (s := S8) off S1.size inb) (Finset.subset_univ _)) $$ H
  iintro H
  have e : ((Memref.whole cc0_scratch4).access (Rect.unit (s := S8) off S1.size inb)).read (Elt F) (wds g : S8.Idx → BitVec 32)
      (Shape.Idx.first (numel1_S1.symm ▸ Nat.one_pos)) = g a := by
    have ha : a < 8 := by have := inb 0; subst h; simpa using this
    refine (read_at (Val := Elt F) cc0_scratch4 (inb := inb) (wds g : S8.Idx → BitVec 32) _ (x := ix1 (n := 8) ⟨a, ha⟩) ?_).trans rfl
    intro i
    subst h
    fin_cases i
    exact (congrArg (a + ·) (first_val numel1_S1 0)).symm
  rw [e]
  iapply Hk
  iexact H

theorem st4 (off : Fin 1 → ℕ) (inb : ∀ i, off i + S1.size i ≤ S8.size i) (a : ℕ) (h : off = ![a]) (g : ℕ → BitVec 32) (w : BitVec 32)
    {hx hm} {α : Type} {Qa : α → sProp 𝕄} {k : PUnit → Prog (TpuEff nD τ sig (Elt F) Λ₀ .tc) α} :
    (posPt (F := F) c g)
      ⊢ iprop((posPt c (put g a w) -∗ wp frame (wpE (defs₀ (F := F)) 𝒱₀ c none) Set.univ (k ⟨⟩) Qa)
        -∗ wp frame (wpE (defs₀ (F := F)) 𝒱₀ c none) Set.univ
          (.op (.store (Memref.whole cc0_scratch4) (Rect.unit (s := S8) off S1.size inb) (fun _ => w) Finset.univ hx hm) k) Qa) := by
  iintro H Hk
  iapply (wp_store 𝒱₀ (c : Thread nD τ) none Set.univ (m := Memref.whole cc0_scratch4) (r := Rect.unit (s := S8) off S1.size inb) (Mk := Finset.univ) (Finset.subset_univ _)) $$ H
  iintro H
  have e : ((Memref.whole cc0_scratch4).access (Rect.unit (s := S8) off S1.size inb)).write (Elt F) (wds g : S8.Idx → BitVec 32) (fun _ => w) Finset.univ
      = (wds (put g a w) : S8.Idx → BitVec 32) := by
    subst h
    funext x
    unfold wds put
    by_cases hxa : (x 0).val = a
    · rw [if_pos hxa]
      refine (write_at (Val := Elt F) cc0_scratch4 (inb := inb) (wds g : S8.Idx → BitVec 32) (fun _ => w) (Shape.Idx.first (numel1_S1.symm ▸ Nat.one_pos)) ?_).trans rfl
      intro i
      fin_cases i
      exact hxa.trans (congrArg (a + ·) (first_val numel1_S1 0)).symm
    · rw [if_neg hxa]
      refine (write_off (Val := Elt F) cc0_scratch4 (inb := inb) (wds g : S8.Idx → BitVec 32) (fun _ => w) ?_).trans rfl
      intro hmem
      have := (Rect.mem_set_unit.mp hmem) 0
      have h1 : S1.size 0 = 1 := rfl
      simp at this
      omega
  rw [e]
  iapply Hk
  iexact H

end Words

/-! ## Draining -/

section Drain
variable (G : Data F) (c : Dev nD)

/-- After `k` of `n` waits of `N` on the cell `sm`. -/
def drainI (sm : SemLoc sig) (O : CellTallies nD τ sig Unit) (N n k : ℕ) : sProp 𝕄 :=
  iprop(∃ W, owes (c : Thread nD τ) O W ∗ cred (tallyAt ((c : Thread nD τ), sm) () ((n - k) * N)) ∗ drained ER (rd G) ((c : Thread nD τ), sm) 0 N k)

theorem drainI_zero (sm : SemLoc sig) (O : CellTallies nD τ sig Unit) (N n : ℕ) (W : Waits sig Unit) :
    iprop(owes (c : Thread nD τ) O W ∗ cred (tallyAt ((c : Thread nD τ), sm) () (n * N)) ∗ atPos ER ((c : Thread nD τ), sm) 0 ∅ 0)
      ⊢ (drainI G c sm O N n 0 : sProp 𝕄) := by
  unfold drainI
  rw [Nat.sub_zero]
  iintro ⟨HO, Hc, Hat⟩
  iexists W
  isplitl [HO]; · iexact HO
  isplitl [Hc]; · iexact Hc
  iapply (drained_zero (E := ER) (Rd := rd G)); iexact Hat

theorem drainI_step {sm : SemLoc sig} {O : CellTallies nD τ sig Unit} {N n j : ℕ} {κ : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm N K)
    (hj : j < n) {α : Type} {Qa : α → sProp 𝕄} {k : PUnit → Prog (TpuEff nD τ sig (Elt F) Λ₀ .tc) α} :
    iprop(cellInv ER (rd G) κ ((c : Thread nD τ), sm) ∗ MayWait (c : Thread nD τ) sm () O ∗ drainI G c sm O N n j)
      ⊢ iprop((drainI G c sm O N n (j + 1) -∗ wp frame (wpE (defs₀ (F := F)) 𝒱₀ c none) Set.univ (k ⟨⟩) Qa)
        -∗ wp frame (wpE (defs₀ (F := F)) 𝒱₀ c none) Set.univ (.op w k) Qa) := by
  unfold drainI
  iintro ⟨#Hi, HM, ⟨%W, HO, Hc, Hd⟩⟩ Hk
  ihave Hcc := (Entails.of_eq (cred_tallyAt_peel ((c : Thread nD τ), sm) () N hj)) $$ Hc
  icases Hcc with ⟨Hc, Hc'⟩
  iapply (wp_drain_step (E := ER) (Rd := rd G) (R := 0) (k := j) (A := cellInv ER (rd G) κ ((c : Thread nD τ), sm)) (B := cred (tallyAt ((c : Thread nD τ), sm) () N))
    (C := owes (c : Thread nD τ) O W) (M := MayWait (c : Thread nD τ) sm () O) (Y := owes (c : Thread nD τ) O (insert (sm, ()) W))
    (fun T => by
      rw [Finset.insert_eq, Finset.union_comm]
      exact Rounds.wp_wait 𝒱₀ ER (rd G) (c : Thread nD τ) none hw (Set.mem_univ _) {(sm, ())} (cr := Finsupp.single () N) (by rw [Util.total_single])
        (image_single_subset sm () N))) $$ [HM HO Hc Hd]
  · isplitr; · iexact Hi
    isplitl [Hc]; · iexact Hc
    isplitl [HO]; · iexact HO
    isplitl [HM]; · iexact HM
    iexact Hd
  iintro ⟨HO, Hd⟩
  iapply Hk
  iexists _
  isplitl [HO]; · iexact HO
  isplitl [Hc'] <;> iassumption

theorem drainI_done {sm : SemLoc sig} {O : CellTallies nD τ sig Unit} {N n j : ℕ} {κ : ℕ} (hj : j = n)
    (hexp : (rd G).expect ((c : Thread nD τ), sm) 0 = n * N) :
    iprop(cellInv ER (rd G) κ ((c : Thread nD τ), sm) ∗ drainI G c sm O N n j)
      ⊢ iprop(|={Set.univ}=> ((∃ W, owes (c : Thread nD τ) O W) ∗ atPos ER ((c : Thread nD τ), sm) 1 ∅ 0
        ∗ bigSep ((rd G).duties ((c : Thread nD τ), sm) 0) fun d => (rd G).payload ((c : Thread nD τ), sm) 0 d)) := by
  subst hj
  unfold drainI
  iintro ⟨#Hi, ⟨%W, HO, -, Hd⟩⟩
  imod (drained_done (E := ER) (Rd := rd G) (κ := κ) (Set.mem_univ κ) hexp) $$ [Hd] with ⟨Hat, -, Hp⟩
  · isplitr; · iexact Hi
    iexact Hd
  imodintro
  isplitl [HO]; · iexists W; iexact HO
  isplitl [Hat] <;> iassumption

end Drain

end Cert.KernelIdeal.Lookup

end
-- ==== Proof.KI.Zero.lean ====
/-
  The counters cleared.
-/
module

public import proofs.«01_k».proof.Proof.KI.Steps

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

/-! ## The functions at the buffers the call passes -/

abbrev body_ := cc0_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part1_ := k0_part1 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part2_ := k0_part2 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part3_ := k0_part3 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part4_ := k0_part4 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part5_ := k0_part5 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev part6_ := k0_part6 (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t1_body_ := k0_t1_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t2_body_ := k0_t2_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t3_body_ := k0_t3_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t4_body_ := k0_t4_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t5_body_ := k0_t5_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t6_body_ := k0_t6_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t7_body_ := k0_t7_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t8_body_ := k0_t8_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t9_body_ := k0_t9_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t10_body_ := k0_t10_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7
abbrev t11_body_ := k0_t11_body (F := F) (Memref.whole cc0_stg0_0) (Memref.isWhole_whole _) (Memref.whole main_v1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7

/-- The device's own number as the body computes it. -/
abbrev meW (c : Dev nD) : BitVec 32 := Scalar.remsi (Scalar.divsi (Dev.word c) 1#32) 8#32

/-- The first `n` words zeroed. -/
def zeros (n : ℕ) (g : ℕ → BitVec 32) : ℕ → BitVec 32 := fun s => if s < n then 0#32 else g s
theorem zeros_zero (g : ℕ → BitVec 32) : zeros 0 g = g := by funext s; simp [zeros]
theorem zeros_put (n : ℕ) (g : ℕ → BitVec 32) : put (zeros n g) n 0#32 = zeros (n + 1) g := by
  funext s
  unfold put zeros
  by_cases h : s = n
  · rw [if_pos h, if_pos (by omega)]
  · rw [if_neg h]
    by_cases h' : s < n
    · rw [if_pos h', if_pos (by omega)]
    · rw [if_neg h', if_neg (by omega)]

theorem clr3 (c : Dev nD) (n : ℕ) (inb inb' : ∀ i, (![n] : Fin 1 → ℕ) i + S1.size i ≤ S8.size i) (g : ℕ → BitVec 32)
    {hx hm} {α : Type} {Qa : α → sProp 𝕄} {k : BitVec 32 → PUnit → Prog (TpuEff nD τ sig (Elt F) Λ₀ .tc) α} :
    (cntPt (F := F) c (zeros n g))
      ⊢ iprop((∀ v, cntPt c (zeros (n + 1) g) -∗ wp frame (wpE (defs₀ (F := F)) 𝒱₀ c none) Set.univ (k v ⟨⟩) Qa)
        -∗ wp frame (wpE (defs₀ (F := F)) 𝒱₀ c none) Set.univ
          (smemLoad (Memref.whole cc0_scratch3) (Rect.unit (s := S8) ![n] S1.size inb) numel1_S1 rfl >>= fun v =>
            .op (.store (Memref.whole cc0_scratch3) (Rect.unit (s := S8) ![n] S1.size inb') (fun _ => 0#32) Finset.univ hx hm) (k v)) Qa) := by
  iintro H Hk
  iapply (ld3 c _ _ n rfl (zeros n g)) $$ H
  iintro H
  iapply (st3 c _ _ n rfl (zeros n g) 0#32) $$ H
  rw [zeros_put]
  iapply Hk

theorem clr4 (c : Dev nD) (n : ℕ) (inb inb' : ∀ i, (![n] : Fin 1 → ℕ) i + S1.size i ≤ S8.size i) (g : ℕ → BitVec 32)
    {hx hm} {α : Type} {Qa : α → sProp 𝕄} {k : BitVec 32 → PUnit → Prog (TpuEff nD τ sig (Elt F) Λ₀ .tc) α} :
    (posPt (F := F) c (zeros n g))
      ⊢ iprop((∀ v, posPt c (zeros (n + 1) g) -∗ wp frame (wpE (defs₀ (F := F)) 𝒱₀ c none) Set.univ (k v ⟨⟩) Qa)
        -∗ wp frame (wpE (defs₀ (F := F)) 𝒱₀ c none) Set.univ
          (smemLoad (Memref.whole cc0_scratch4) (Rect.unit (s := S8) ![n] S1.size inb) numel1_S1 rfl >>= fun v =>
            .op (.store (Memref.whole cc0_scratch4) (Rect.unit (s := S8) ![n] S1.size inb') (fun _ => 0#32) Finset.univ hx hm) (k v)) Qa) := by
  iintro H Hk
  iapply (ld4 c _ _ n rfl (zeros n g)) $$ H
  iintro H
  iapply (st4 c _ _ n rfl (zeros n g) 0#32) $$ H
  rw [zeros_put]
  iapply Hk

/-- The counters cleared, but for the last. -/
theorem part3_run (c : Dev nD) (g6 g7 : ℕ → BitVec 32) (Kt : (Σ' (_ : Dev nD) (_ : BitVec 32), BitVec 32) → sProp 𝕄) :
    iprop(cntPt c g6 ∗ posPt c g7 ∗ (cntPt c (zeros 7 g6) ∗ posPt c (zeros 6 g7) -∗ Kt ⟨c, meW c, Scalar.muli (meW c) 8192#32⟩))
      ⊢ wp frame (wpE (defs₀ (F := F)) 𝒱₀ c none) Set.univ (part3_ (F := F)) Kt := by
  unfold part3_
  simp only [k0_part3_eq_skeleton]
  unfold k0_part3_skel
  simp only [Prog.lift, Prog.bind_op, Prog.bind_ret, Prog.pure_eq_ret, wp_deviceId]
  iintro ⟨H6, H7, Hk⟩
  ihave H6 := (Entails.of_eq (congrArg (cntPt (F := F) c) (zeros_zero g6).symm)) $$ H6
  ihave H7 := (Entails.of_eq (congrArg (posPt (F := F) c) (zeros_zero g7).symm)) $$ H7
  iapply (clr3 c 0 _ _ g6) $$ H6; iintro %_ H6
  iapply (clr4 c 0 _ _ g7) $$ H7; iintro %_ H7
  iapply (clr3 c 1 _ _ g6) $$ H6; iintro %_ H6
  iapply (clr4 c 1 _ _ g7) $$ H7; iintro %_ H7
  iapply (clr3 c 2 _ _ g6) $$ H6; iintro %_ H6
  iapply (clr4 c 2 _ _ g7) $$ H7; iintro %_ H7
  iapply (clr3 c 3 _ _ g6) $$ H6; iintro %_ H6
  iapply (clr4 c 3 _ _ g7) $$ H7; iintro %_ H7
  iapply (clr3 c 4 _ _ g6) $$ H6; iintro %_ H6
  iapply (clr4 c 4 _ _ g7) $$ H7; iintro %_ H7
  iapply (clr3 c 5 _ _ g6) $$ H6; iintro %_ H6
  iapply (clr4 c 5 _ _ g7) $$ H7; iintro %_ H7
  iapply (clr3 c 6 _ _ g6) $$ H6; iintro %_ H6
  rw [wp_ret]; imodintro
  iapply Hk
  isplitl [H6] <;> iassumption

end Cert.KernelIdeal.Lookup

end
-- ==== Proof.KI.Gather.lean ====
/-
  The counting loop: one copy of a row of the table per own token.
-/
module

public import proofs.«01_k».proof.Proof.KI.Zero

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

abbrev tabPt (c : Dev nD) (q : PosShare TreeShare) : sProp 𝕄 :=
  ((c : Thread nD τ).loc main_v1) ↦{q} (G.tab c : (main_v1 : Ref sig .tc).ty.Contents (Elt F))

theorem amt_gat : sig.dmaCredit .tc (Kind.table .tc cc0_scratch0.space) cc0_scratch0.idx S8x128 .f32 = 128 := by decide +kernel
theorem amt_recv : sig.dmaCredit .tc (Kind.table .tc cc0_scratch2.space) cc0_scratch2.idx S256x128 .bf16 = 2048 := by decide +kernel
theorem amt_send : sig.dmaCredit .tc (Kind.table .tc cc0_scratch1.space) cc0_scratch1.idx S1792x128 .bf16 = 7 * 2048 := by decide +kernel

/-- Rows taken from the front of a block of rows. -/
theorem rows_front {R a n m : ℕ} (h : n ≤ m) : rows R a m = rows R a n ∪ rows R (a + n) (m - n) := by
  ext x
  rw [Finset.mem_union, mem_rows, mem_rows, mem_rows]
  omega

/-- What a copied row of the table leaves in its slot. -/
theorem gat_ok (hG : Good G) (c : Dev nD) {t : ℕ} (ht : t < 1024) (ho : own G c t = c.val)
    {off4 off5 : Fin 2 → ℕ} (inb4 : ∀ i, off4 i + S8x128.size i ≤ S8192x128.size i) (inb5 : ∀ i, off5 i + S8x128.size i ≤ S65536x128.size i)
    (h4 : off4 = ![8 * cnt (own G c) t c.val, 0]) (h5 : off5 = ![8 * ((G.ids c t).toNat - 8192 * c.val), 0])
    (fd : (cc0_scratch0 : Ref sig .tc).ty.Contents (Elt F)) :
    GatOK G c (cnt (own G c) t c.val)
      (((View.whole cc0_scratch0).slice (Rect.unit (s := S8192x128) off4 S8x128.size inb4)).write (Elt F) fd
        (((View.whole main_v1).slice (Rect.unit (s := S65536x128) off5 S8x128.size inb5)).read (Elt F) (G.tab c : (main_v1 : Ref sig .tc).ty.Contents (Elt F))) Finset.univ) := by
  intro x hx
  rw [mem_rows] at hx
  have hr := hG.range c t ht
  have ho' : (G.ids c t).toNat / 8192 = c.val := ho
  have hx1 : (x 1).val < 128 := (x 1).isLt
  subst h4 h5
  set k := cnt (own G c) t c.val with hk
  let j : S8x128.Idx := fun a => match a with
    | 0 => ⟨(x 0).val - 8 * k, by show _ < 8; omega⟩
    | 1 => ⟨(x 1).val, hx1⟩
  refine (write_at (Val := Elt F) cc0_scratch0 (inb := inb4) fd _ j ?_).trans ?_
  · intro a
    fin_cases a
    · show (x 0).val = 8 * k + ((x 0).val - 8 * k); omega
    · show (x 1).val = 0 + (x 1).val; omega
  have hkx : (x 0).val / 8 = k := by omega
  have htok : tok (own G c) c.val k = t := by
    have := tok_cnt (own G c) ht
    rw [ho] at this
    exact this
  have hrow : 8 * ((G.ids c t).toNat - 8192 * c.val) + (x 0).val % 8 < 65536 := by omega
  refine (read_at (Val := Elt F) main_v1 (inb := inb5) (G.tab c : (main_v1 : Ref sig .tc).ty.Contents (Elt F)) j
    (x := ix2 (R := 65536) ⟨8 * ((G.ids c t).toNat - 8192 * c.val) + (x 0).val % 8, hrow⟩ (x 1)) ?_).trans ?_
  · intro a
    fin_cases a
    · show 8 * ((G.ids c t).toNat - 8192 * c.val) + (x 0).val % 8 = 8 * ((G.ids c t).toNat - 8192 * c.val) + ((x 0).val - 8 * k); omega
    · show (x 1).val = 0 + (x 1).val; omega
  unfold gv tabAt
  rw [hkx, htok]
  congr 1
  congr 1
  · exact Fin.ext (Nat.mod_eq_of_lt hrow).symm
  · exact Fin.ext (Nat.mod_eq_of_lt hx1).symm

/-- One own token's copy started. -/
theorem gat_step (hG : Good G) (c : Dev nD) {κ : ℕ} {t : ℕ} (ht : t < 1024) (ho : own G c t = c.val)
    {off4 off5 : Fin 2 → ℕ} {inb4 : ∀ i, off4 i + S8x128.size i ≤ S8192x128.size i} {inb5 : ∀ i, off5 i + S8x128.size i ≤ S65536x128.size i}
    (h4 : off4 = ![8 * cnt (own G c) t c.val, 0]) (h5 : off5 = ![8 * ((G.ids c t).toNat - 8192 * c.val), 0])
    {h1 h2 h3} {α : Type} {Qa : α → sProp 𝕄} {k : PUnit → Prog (TpuEff nD τ sig (Elt F) Λ₀ .tc) α} :
    iprop(cellInv ER (rd G) κ (gatCell c) ∗ (∃ q, tabPt G c q) ∗ (∃ g, gatPt c (8 * cnt (own G c) t c.val) (8192 - 8 * cnt (own G c) t c.val) g)
        ∗ dutyTok ER (gatCell c) 0 ⟨0, cnt (own G c) t c.val⟩ ∗ reached ER (gatCell c) 0)
      ⊢ iprop((((∃ q, tabPt G c q) ∗ (∃ g, gatPt c (8 * (cnt (own G c) t c.val + 1)) (8192 - 8 * (cnt (own G c) t c.val + 1)) g)
            ∗ cred (tallyAt (gatCell c) () 128)) -∗ wp frame (wpE (defs₀ (F := F)) 𝒱₀ c none) Set.univ (k ⟨⟩) Qa)
        -∗ wp frame (wpE (defs₀ (F := F)) 𝒱₀ c none) Set.univ
          (.op (.enqueueDma ((Memref.whole main_v1).slice (Rect.unit (s := S65536x128) off5 S8x128.size inb5) (fun _ => rfl))
            (.here ((Memref.whole cc0_scratch0).slice (Rect.unit (s := S8192x128) off4 S8x128.size inb4) (fun _ => rfl))) (.dma gatS) h1 h2 h3) k) Qa) := by
  have hcap : cnt (own G c) t c.val < nOwn G c := by
    have := cnt_lt_of_lt (own G c) ht
    rw [ho] at this; exact this
  have hc := hG.cap c
  iintro ⟨#Hi, ⟨%q, Ht⟩, ⟨%g, Hg⟩, Htok, #Hr⟩ Hk
  -- the share read, and the rest kept
  ihave Ht2 := (pointsTo_share (q := q) (PosShare.mem_left_op_right _)).1 $$ Ht
  icases Ht2 with ⟨HtL, HtR⟩
  ihave HtL2 := (pointsTo_split_subset (Finset.subset_univ (rows 65536 (8 * ((G.ids c t).toNat - 8192 * c.val)) 8))).1 $$ HtL
  icases HtL2 with ⟨HtL, -⟩
  -- the slot
  ihave Hg2 := (Entails.of_eq (congrArg (fun S => (((c : Thread nD τ).loc cc0_scratch0) ↦[S]{fullShare} g : sProp 𝕄))
      (rows_front (R := 8192) (a := 8 * cnt (own G c) t c.val) (n := 8) (m := 8192 - 8 * cnt (own G c) t c.val) (by omega)))) $$ Hg
  ihave Hg3 := (pointsTo_union (rows_disjoint (by omega))).1 $$ Hg2
  icases Hg3 with ⟨Hgs, Hgr⟩
  iapply (Rounds.wp_copy_pointsTo 𝒱₀ ER (rd G) (c : Thread nD τ) none
      (src := (Memref.whole main_v1).slice (Rect.unit (s := S65536x128) off5 S8x128.size inb5) (fun _ => rfl))
      (dst := (Memref.whole cc0_scratch0).slice (Rect.unit (s := S8192x128) off4 S8x128.size inb4) (fun _ => rfl))
      (sem := .dma gatS) (q := q.left) (fs := (G.tab c : (main_v1 : Ref sig .tc).ty.Contents (Elt F))) (fd := g) (r := 0)
      (d := ⟨0, cnt (own G c) t c.val⟩) (κ := κ)
      (by rw [duties_gat]; simp only [Finset.mem_sigma, Finset.mem_singleton, Finset.mem_range, true_and]; exact hcap)
      () 128 amt_gat (amount_gat G c _)
      (by
        rw [payload_gat]; unfold gatPay
        iintro ⟨Hd, -⟩
        iexists _
        isplitr
        · ipureintro; exact gat_ok G hG c ht ho inb4 inb5 h4 h5 g
        · iapply (Entails.of_eq (congrArg (fun S => (((c : Thread nD τ).loc cc0_scratch0) ↦[S]{fullShare} _ : sProp 𝕄))
            ((View.set_slice_whole _ _).trans (set_rows h4 inb4)))) $$ Hd)) $$ [HtL Hgs Htok]
  · isplitr; · iexact Hi
    isplitl [HtL]
    · iapply (Entails.of_eq (congrArg (fun S => (((c : Thread nD τ).loc main_v1) ↦[S]{q.left} _ : sProp 𝕄))
            ((View.set_slice_whole _ _).trans (set_rows h5 inb5)).symm)) $$ HtL
    isplitl [Hgs]
    · iapply (Entails.of_eq (congrArg (fun S => (((c : Thread nD τ).loc cc0_scratch0) ↦[S]{fullShare} _ : sProp 𝕄))
            ((View.set_slice_whole _ _).trans (set_rows h4 inb4)).symm)) $$ Hgs
    isplitl [Htok]; · iexact Htok
    iexact Hr
  iintro Hc
  iapply Hk
  isplitl [HtR]; · iexists _; iexact HtR
  isplitl [Hgr]
  · iexists g
    rw [show 8 * (cnt (own G c) t c.val + 1) = 8 * cnt (own G c) t c.val + 8 by ring,
      show 8192 - (8 * cnt (own G c) t c.val + 8) = 8192 - 8 * cnt (own G c) t c.val - 8 by omega]
    iexact Hgr
  iexact Hc

/-! ## The counting loop -/

/-- The counts of the first `n` tokens as words. -/
def cw (f : ℕ → ℕ) (n : ℕ) : ℕ → BitVec 32 := fun s => BitVec.ofNat 32 (cnt f n s)
theorem cw_put (f : ℕ → ℕ) (n : ℕ) : put (cw f n) (f n) (Scalar.addi (cw f n (f n)) 1#32) = cw f (n + 1) := by
  funext s
  unfold put
  by_cases h : s = f n
  · rw [if_pos h, h]
    unfold cw
    rw [cnt_succ_self]
    exact (BitVec.ofNat_add _ 1).symm
  · rw [if_neg h]
    unfold cw
    rw [cnt_succ_ne f n s (fun e => h e.symm)]

/-- Before token `t`. -/
def I1 (c : Dev nD) (t : ℕ) (acc : BitVec 32) : sProp 𝕄 :=
  iprop(⌜acc = BitVec.ofNat 32 (cnt (own G c) t c.val)⌝ ∗ idsPt c (G.ids c) ∗ cntPt c (cw (own G c) t)
    ∗ (∃ q, tabPt G c q) ∗ (∃ g, gatPt c (8 * cnt (own G c) t c.val) (8192 - 8 * cnt (own G c) t c.val) g)
    ∗ cred (tallyAt (gatCell c) () (cnt (own G c) t c.val * 128))
    ∗ bigSep (Finset.Ico (cnt (own G c) t c.val) (nOwn G c)) fun k => dutyTok ER (gatCell c) 0 ⟨0, k⟩)

theorem t1_step (hG : Good G) (c : Dev nD) (κ : ℕ) (t : Fin k0_t1_loop.trips) (acc : BitVec 32) :
    iprop(cellInv ER (rd G) κ (gatCell c) ∗ reached ER (gatCell c) 0 ∗ I1 G c t.val acc)
      ⊢ wp frame (wpE (defs₀ (F := F)) 𝒱₀ c none) Set.univ (t1_body_ (F := F) c (meW c) (Scalar.muli (meW c) 8192#32) t acc) (I1 G c (t.val + 1)) := by
  have ht : t.val < 1024 := lt_of_lt_of_eq t.isLt t1_trips
  have hr := hG.range c t.val ht
  have ho8 := own_lt hG c ht
  unfold t1_body_ I1
  iintro ⟨#Hi, #Hr, %hacc, Hids, Hcnt, Htab, Hgat, Hcr, Htoks⟩
  subst hacc
  unfold k0_t1_body
  simp only [Prog.lift, Prog.bind_op, Prog.bind_ret, Prog.pure_eq_ret]
  iapply (ld0 c _ _ t.val (k0_off1_eq t) (G.ids c)) $$ Hids; iintro Hids
  have hn : (G.ids c t.val).toNat / 8192 = c.val → cnt (own G c) t.val c.val < 1024 := fun _ => lt_of_le_of_lt (cnt_le _ _ _) ht
  iapply (wp_assume 𝒱₀ (c : Thread nD τ) none Set.univ (chk1 c _ _ hr hn))
  iapply (ld3 c _ _ (own G c t.val) (off2_eq _) (cw (own G c) t.val)) $$ Hcnt; iintro Hcnt
  iapply (ld3 c _ _ (own G c t.val) (off2_eq _) (cw (own G c) t.val)) $$ Hcnt; iintro Hcnt
  iapply (st3 c _ _ (own G c t.val) (off2_eq _) (cw (own G c) t.val)) $$ Hcnt; iintro Hcnt
  rw [cw_put]
  by_cases hc : k0_cond1 c (G.ids c t.val) = 1#1
  · have ho : own G c t.val = c.val := (cond1_iff c _ hr).mp hc
    have hcap : cnt (own G c) t.val c.val < nOwn G c := by
      have := cnt_lt_of_lt (own G c) ht
      rw [ho] at this; exact this
    have hcap' := hG.cap c
    have hs : cnt (own G c) (t.val + 1) c.val = cnt (own G c) t.val c.val + 1 := by rw [cnt_succ, if_pos ho]
    rw [dif_pos hc]
    simp only [Prog.bind_op, Prog.bind_ret]
    iapply (ld0 c _ _ t.val (k0_off3_eq t) (G.ids c)) $$ Hids; iintro Hids
    iapply (wp_assume 𝒱₀ (c : Thread nD τ) none Set.univ (chk2 c _ hr))
    ihave Htoks2 := (Entails.of_eq (bigSep_Ico_succ_bot hcap fun k => (dutyTok ER (gatCell c) 0 ⟨0, k⟩ : sProp 𝕄))) $$ Htoks
    icases Htoks2 with ⟨Htok, Htoks⟩
    iapply (gat_step G hG c (κ := κ) ht ho (off4_eq _ (by omega)) (off5_eq c _ hr ho)) $$ [Htab Hgat Htok]
    · isplitr; · iexact Hi
      isplitl [Htab]; · iexact Htab
      isplitl [Hgat]; · iexact Hgat
      isplitl [Htok]; · iexact Htok
      iexact Hr
    iintro ⟨Htab, Hgat, Hc1⟩
    rw [wp_ret]; imodintro
    rw [hs]
    isplitr
    · ipureintro
      refine (own_step c _ _ hr).trans ?_
      rw [if_pos (show (G.ids c t.val).toNat / 8192 = c.val from ho)]
    isplitl [Hids]; · iexact Hids
    isplitl [Hcnt]; · iexact Hcnt
    isplitl [Htab]; · iexact Htab
    isplitl [Hgat]; · iexact Hgat
    isplitl [Hcr Hc1]
    · iapply (Entails.of_eq (cred_tallyAt_succ (gatCell c) () (N := 128) (cnt (own G c) t.val c.val)).symm)
      isplitl [Hcr] <;> iassumption
    iexact Htoks
  · have ho : own G c t.val ≠ c.val := fun h => hc ((cond1_iff c _ hr).mpr h)
    have hs : cnt (own G c) (t.val + 1) c.val = cnt (own G c) t.val c.val := cnt_succ_ne _ _ _ ho
    rw [dif_neg hc]
    simp only [Prog.bind_op, Prog.bind_ret]
    rw [wp_ret]; imodintro
    rw [hs]
    isplitr
    · ipureintro
      refine (own_step c _ _ hr).trans ?_
      rw [if_neg (show ¬ (G.ids c t.val).toNat / 8192 = c.val from ho), Nat.add_zero]
    isplitl [Hids]; · iexact Hids
    isplitl [Hcnt]; · iexact Hcnt
    isplitl [Htab]; · iexact Htab
    isplitl [Hgat]; · iexact Hgat
    isplitl [Hcr]; · iexact Hcr
    iexact Htoks

end Cert.KernelIdeal.Lookup

end
-- ==== Proof.KI.Part4.lean ====
/-
  The counters and copies before the exchange: the counting loop, and the chunks of all senders counted.
-/
module

public import proofs.«01_k».proof.Proof.KI.Gather

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-- A count rounded up to chunks, as the words compute it. -/
def chW (v : BitVec 32) : BitVec 32 :=
  let v101 := Scalar.subi (Scalar.addi v 32#32) 1#32
  let v102 := Scalar.divsi v101 32#32
  let v107 := Scalar.subi (Scalar.extui (Scalar.cmpi .sgt v101 0#32) : BitVec 32) (Scalar.extui (Scalar.cmpi .slt v101 0#32))
  let v112 := Scalar.subi (Scalar.extui (Scalar.cmpi .sgt 32#32 0#32) : BitVec 32) (Scalar.extui (Scalar.cmpi .slt 32#32 0#32))
  Scalar.select (Scalar.andi (Scalar.cmpi .ne v107 v112) (Scalar.cmpi .ne (Scalar.remsi v101 32#32) 0#32)) (Scalar.subi v102 1#32) v102

theorem chW_all : ∀ n : Fin 385, chW (BitVec.ofNat 32 n.val) = BitVec.ofNat 32 ((n.val + 31) / 32) := by decide +kernel
theorem chW_eq (n : ℕ) (h : n ≤ 384) : chW (BitVec.ofNat 32 n) = BitVec.ofNat 32 ((n + 31) / 32) := chW_all ⟨n, by omega⟩

/-- The chunks of the first `k` senders, by the words of device `c`. -/
def chs (c : Dev nD) (k : ℕ) : ℕ := ∑ s ∈ Finset.range k, nch (own G c) s
theorem chs_eight (hG : Good G) (c : Dev nD) : chs G c 8 = tot G := by
  unfold chs tot
  rw [Finset.sum_range]
  refine Finset.sum_congr rfl fun s _ => ?_
  show nch (own G c) s.val = nch (own G s) s.val
  unfold nch
  rw [hG.agree c s, hG.agree s s]
theorem tot_le (hG : Good G) : tot G ≤ 96 := by
  unfold tot
  refine (Finset.sum_le_card_nsmul _ _ 12 fun s _ => nc_le hG s).trans ?_
  rw [Finset.card_univ, Fintype.card_fin, smul_eq_mul]
  decide

/-- Before sender `k`. -/
def I2 (c : Dev nD) (k : ℕ) (acc : BitVec 32) : sProp 𝕄 :=
  iprop(⌜acc = BitVec.ofNat 32 (chs G c k)⌝ ∗ cntPt c (cw (own G c) 1024))

theorem t2_step (hG : Good G) (c : Dev nD) (v2 v3 : BitVec 32) (t : Fin k0_t2_loop.trips) (acc : BitVec 32) :
    (I2 G c t.val acc)
      ⊢ wp frame (wpE (defs₀ (F := F)) 𝒱₀ c none) Set.univ (t2_body_ (F := F) c v2 v3 t acc) (I2 G c (t.val + 1)) := by
  have ht : t.val < 8 := lt_of_lt_of_eq t.isLt t2_trips
  unfold t2_body_ I2
  iintro ⟨%hacc, Hcnt⟩
  subst hacc
  unfold k0_t2_body
  simp only [Prog.lift, Prog.bind_op, Prog.bind_ret, Prog.pure_eq_ret]
  iapply (ld3 c _ _ t.val (k0_off6_eq t) (cw (own G c) 1024)) $$ Hcnt; iintro Hcnt
  rw [wp_ret]; imodintro
  isplitr
  · ipureintro
    have hle : cnt (own G c) 1024 t.val ≤ 384 := by
      have := hG.agree c ⟨t.val, ht⟩
      have h2 := hG.cap ⟨t.val, ht⟩
      exact le_of_eq_of_le this h2
    show Scalar.addi (BitVec.ofNat 32 (chs G c t.val)) (chW (cw (own G c) 1024 t.val)) = _
    unfold cw
    rw [chW_eq _ hle]
    unfold chs
    rw [Finset.sum_range_succ]
    exact (BitVec.ofNat_add _ _).symm
  iexact Hcnt

/-- What the copies of the counting loop leave. -/
def gatRest (c : Dev nD) : sProp 𝕄 := iprop(∃ g, gatPt c (8 * nOwn G c) (8192 - 8 * nOwn G c) g)

theorem nOwn_cap' (hG : Good G) (c : Dev nD) : nOwn G c ≤ 384 := hG.cap c

theorem part4_run (hG : Good G) (c : Dev nD) (κ : ℕ) (g6 g7 : ℕ → BitVec 32)
    (Kt : (Σ' (v21 : BitVec 32) (_ : k0_chk3 c v21) (_ : BitVec 32) (v42 : BitVec 32) (_ : k0_chk4 v42) (_ : Sems sig S_) (_ : BitVec 32), BitVec 32) → sProp 𝕄) :
    iprop(cellInv ER (rd G) κ (gatCell c) ∗ reached ER (gatCell c) 0 ∗ cntPt c (zeros 7 g6) ∗ posPt c (zeros 6 g7)
        ∗ idsPt c (G.ids c) ∗ tabPt G c fullShare ∗ (∃ g, gatPt c 0 8192 g)
        ∗ (bigSep (Finset.range (nOwn G c)) fun k => dutyTok ER (gatCell c) 0 ⟨0, k⟩)
        ∗ (∀ h3 v40 h4 v44, (cntPt c (cw (own G c) 1024) ∗ posPt c (cw (own G c) 0) ∗ idsPt c (G.ids c) ∗ gatRest G c
            ∗ cred (tallyAt (gatCell c) () (nOwn G c * 128)))
          -∗ Kt ⟨BitVec.ofNat 32 (nOwn G c), h3, v40, BitVec.ofNat 32 (tot G), h4, SemArray.scalar (sig.barrier 0 rfl), v44, 8#32⟩))
      ⊢ wp frame (wpE (defs₀ (F := F)) 𝒱₀ c none) Set.univ (part4_ (F := F) c (meW c) (Scalar.muli (meW c) 8192#32)) Kt := by
  have hcap : nOwn G c ≤ 384 := hG.cap c
  have hz : ∀ (g : ℕ → BitVec 32) (s : ℕ), s < 8 → zeros 8 g s = cw (own G c) 0 s := fun g s hs => by
    unfold zeros cw
    rw [if_pos hs, cnt_zero]
  unfold part4_
  simp only [k0_part4_eq_skeleton]
  unfold k0_part4_skel
  simp only [Prog.lift, Prog.bind_op, Prog.bind_ret, Prog.pure_eq_ret]
  iintro ⟨#Hi, #Hr, H6, H7, Hids, Htab, Hgat, Htoks, Hk⟩
  iapply (clr4 c 6 _ _ g7) $$ H7; iintro %_ H7
  iapply (clr3 c 7 _ _ g6) $$ H6; iintro %_ H6
  iapply (clr4 c 7 _ _ g7) $$ H7; iintro %_ H7
  ihave H6 := (Entails.of_eq (congrArg (fun f => (((c : Thread nD τ).loc cc0_scratch3) ↦{fullShare} f : sProp 𝕄)) (wds_congr (n := 8) (hz g6)))) $$ H6
  ihave H7 := (Entails.of_eq (congrArg (fun f => (((c : Thread nD τ).loc cc0_scratch4) ↦{fullShare} f : sProp 𝕄)) (wds_congr (n := 8) (hz g7)))) $$ H7
  iapply (Scf.wp_for_bind frame (wpE (defs₀ (F := F)) 𝒱₀ c none) Set.univ _ _ _ k0_t1_ok 0#32
    (t1_body_ (F := F) c (meW c) (Scalar.muli (meW c) 8192#32))
    (fun t acc => iprop(cellInv ER (rd G) κ (gatCell c) ∗ reached ER (gatCell c) 0 ∗ I1 G c t acc))
    (fun t acc => by
      iintro ⟨#Hi, #Hr, HI⟩
      iapply (wp_wand frame (wpE (defs₀ (F := F)) 𝒱₀ c none) Set.univ) $$ [HI]
      · iapply (t1_step G hG c κ t acc)
        isplitr; · iexact Hi
        isplitr; · iexact Hr
        iexact HI
      iintro %acc' HI
      isplitr; · iexact Hi
      isplitr; · iexact Hr
      iexact HI)) $$ [H6 Hids Htab Hgat Htoks]
  · isplitr; · iexact Hi
    isplitr; · iexact Hr
    unfold I1
    rw [cnt_zero]
    isplitr; · ipureintro; rfl
    isplitl [Hids]; · iexact Hids
    isplitl [H6]; · iexact H6
    isplitl [Htab]; · iexists fullShare; iexact Htab
    isplitl [Hgat]; · iexact Hgat
    isplitr [Htoks]; · rw [Nat.zero_mul, tallyAt_zero]; rw [cred_zero]; iempintro
    rw [← Finset.range_eq_Ico]
    iexact Htoks
  iintro %v21 ⟨-, -, HI⟩
  unfold I1
  icases HI with ⟨%hv, Hids, H6, -, Hgat, Hcr, -⟩
  subst hv
  have e1 : cnt (own G c) (Scf.trips k0_t1_loop.lb k0_t1_loop.ub k0_t1_loop.st) c.val = nOwn G c := by
    rw [show Scf.trips k0_t1_loop.lb k0_t1_loop.ub k0_t1_loop.st = 1024 from t1_trips]; rfl
  rw [e1]
  rw [show Scf.trips k0_t1_loop.lb k0_t1_loop.ub k0_t1_loop.st = 1024 from t1_trips]
  iapply (wp_assume 𝒱₀ (c : Thread nD τ) none Set.univ (chk3 c (nOwn G c) hcap))
  iapply (Scf.wp_for_bind frame (wpE (defs₀ (F := F)) 𝒱₀ c none) Set.univ _ _ _ k0_t2_ok 0#32
    (t2_body_ (F := F) c (meW c) (Scalar.muli (meW c) 8192#32)) (I2 G c) (fun t acc => t2_step G hG c _ _ t acc)) $$ [H6]
  · unfold I2
    isplitr; · ipureintro; rfl
    iexact H6
  iintro %v42 HI
  unfold I2
  icases HI with ⟨%hv, H6⟩
  subst hv
  rw [show Scf.trips k0_t2_loop.lb k0_t2_loop.ub k0_t2_loop.st = 8 from t2_trips, chs_eight G hG]
  iapply (wp_assume 𝒱₀ (c : Thread nD τ) none Set.univ (k0_chk4_all _))
  rw [wp_ret]; imodintro
  iapply Hk
  isplitl [H6]; · iexact H6
  isplitl [H7]; · iexact H7
  isplitl [Hids]; · iexact Hids
  isplitl [Hgat]; · unfold gatRest; iexact Hgat
  iexact Hcr

end Cert.KernelIdeal.Lookup

end
-- ==== Proof.KI.Bar.lean ====
/-
  The meeting of the devices: a unit to each of the seven peers, and the seven units back.
-/
module

public import proofs.«01_k».proof.Proof.KI.Part4

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## The records every device may consult -/

/-- The three cells of a device's own transfers. -/
def sc3 : Fin 3 → SemLoc sig := ![.dma gatS, .dma sendS, .dma recvS]
theorem sc3_inj : ∀ i j, sc3 i = sc3 j → i = j := by decide
theorem sc3_ne_bar : ∀ i, sc3 i ≠ .reg barS := by decide

def barEmb : Dev nD ↪ GSem nD τ sig := ⟨fun c => barCell c, fun _ _ h => congrArg (fun g : GSem nD τ sig => g.1.1) h⟩
def scEmb : Dev nD × Fin 3 ↪ GSem nD τ sig :=
  ⟨fun ck => ((ck.1 : Thread nD τ), sc3 ck.2), fun _ _ h => Prod.ext (congrArg (fun g : GSem nD τ sig => g.1.1) h)
    (sc3_inj _ _ (congrArg Prod.snd h))⟩
def barCells : Finset (GSem nD τ sig) := Finset.univ.map barEmb
def scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact sc3_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem gat_mem (c : Dev nD) : gatCell c ∈ (barCells ∪ scCells : Finset (GSem nD τ sig)) :=
  Finset.mem_union_right _ (Finset.mem_map_of_mem scEmb (Finset.mem_univ (c, (0 : Fin 3))))
theorem send_mem (c : Dev nD) : sendCell c ∈ (barCells ∪ scCells : Finset (GSem nD τ sig)) :=
  Finset.mem_union_right _ (Finset.mem_map_of_mem scEmb (Finset.mem_univ (c, (1 : Fin 3))))
theorem recv_mem (c : Dev nD) : recvCell c ∈ (barCells ∪ scCells : Finset (GSem nD τ sig)) :=
  Finset.mem_union_right _ (Finset.mem_map_of_mem scEmb (Finset.mem_univ (c, (2 : Fin 3))))

/-- All the invariants under one map of names; round 0 of every barrier cell reached. -/
def records (κ : GSem nD τ sig → ℕ) : sProp 𝕄 :=
  iprop((bigSep (barCells ∪ scCells) fun g => cellInv ER (rd G) (κ g) g) ∗ bigSep barCells fun g => reached ER g 0)

instance records_persistent (κ : GSem nD τ sig → ℕ) : BI.Persistent (records G κ) := by unfold records; infer_instance

theorem inv_at (κ : GSem nD τ sig → ℕ) {g : GSem nD τ sig} (hg : g ∈ (barCells ∪ scCells : Finset (GSem nD τ sig))) :
    (records G κ : sProp 𝕄) ⊢ cellInv ER (rd G) (κ g) g := by
  have e : (bigSep (barCells ∪ scCells) fun g => (cellInv ER (rd G) (κ g) g : sProp 𝕄)) ⊢ cellInv ER (rd G) (κ g) g := bigSep_elim hg
  unfold records
  iintro ⟨#H, -⟩
  iapply e
  iexact H

theorem reached_at (κ : GSem nD τ sig → ℕ) (c : Dev nD) : (records G κ : sProp 𝕄) ⊢ reached ER (barCell c) 0 := by
  have e : (bigSep barCells fun g => (reached ER g 0 : sProp 𝕄)) ⊢ reached ER (barCell c) 0 :=
    bigSep_elim (Finset.mem_map_of_mem barEmb (Finset.mem_univ c))
  unfold records
  iintro ⟨-, #H⟩
  iapply e
  iexact H

/-! ## The seven units -/

/-- Owed with the units from offset `k` on to come. -/
def obar (c : Dev nD) (k : ℕ) : CellTallies nD τ sig Unit := owedFrom G c 0 + ∑ i ∈ peers.filter (k ≤ ·.val), owedBar c i
theorem obar_zero (c : Dev nD) : obar G c 0 = O₀ G c := by
  unfold obar O₀
  rw [Finset.filter_true_of_mem fun _ _ => Nat.zero_le _]
theorem obar_seven (c : Dev nD) : obar G c 7 = owedFrom G c 0 := by
  unfold obar
  rw [show peers.filter (7 ≤ ·.val) = ∅ by decide, Finset.sum_empty, add_zero]
theorem from_step : ∀ i : Fin 8, i ≠ 7 → peers.filter (i.val ≤ ·.val) = insert i (peers.filter (i.val + 1 ≤ ·.val)) := by decide
theorem from_notMem (i : Fin 8) : i ∉ peers.filter (i.val + 1 ≤ ·.val) := by simp
theorem obar_step (c : Dev nD) (i : Fin 8) (hi : i ≠ 7) : obar G c i.val = obar G c (i.val + 1) + owedBar c i := by
  unfold obar
  rw [from_step i hi, Finset.sum_insert (from_notMem i), add_comm (owedBar c i), ← add_assoc]

/-- Before the unit to offset `k`. -/
def sigI (c : Dev nD) (k : ℕ) : sProp 𝕄 :=
  iprop((∃ W, owes (c : Thread nD τ) (obar G c k) W)
    ∗ bigSep (peers.filter (k ≤ ·.val)) fun i => iprop(dutyTok ER (barCell (pr c i)) 0 ⟨bk i, 0⟩ ∗ region G c (pr c i)))

theorem sig_step (c : Dev nD) (κ : GSem nD τ sig → ℕ) (i : Fin 8) (hi : i ≠ 7) {d : Dev nD} (hd : d = pr c i)
    {α : Type} {Qa : α → sProp 𝕄} {k : PUnit → Prog (TpuEff nD τ sig (Elt F) Λ₀ .tc) α} :
    iprop(records G κ ∗ reached ER (recvCell c) 0 ∗ sigI G c i.val)
      ⊢ iprop((sigI G c (i.val + 1) -∗ wp frame (wpE (defs₀ (F := F)) 𝒱₀ c none) Set.univ (k ⟨⟩) Qa)
        -∗ wp frame (wpE (defs₀ (F := F)) 𝒱₀ c none) Set.univ
          (.op (.semSignal (d, .tc) barS ((1 : ℕ) : ℤ)) k) Qa) := by
  subst hd
  have e : (bigSep (peers.filter (i.val ≤ ·.val)) fun i => (iprop(dutyTok ER (barCell (pr c i)) 0 ⟨bk i, 0⟩ ∗ region G c (pr c i)) : sProp 𝕄))
      ⊢ iprop((dutyTok ER (barCell (pr c i)) 0 ⟨bk i, 0⟩ ∗ region G c (pr c i))
        ∗ bigSep (peers.filter (i.val + 1 ≤ ·.val)) fun i => (iprop(dutyTok ER (barCell (pr c i)) 0 ⟨bk i, 0⟩ ∗ region G c (pr c i)) : sProp 𝕄)) := by
    rw [from_step i hi]
    exact Entails.of_eq (bigSep_insert (from_notMem i))
  unfold sigI
  iintro ⟨#Hr, #Hv, ⟨%W, HO⟩, Hb⟩ Hk
  ihave Hb2 := e $$ Hb
  icases Hb2 with ⟨⟨Htok, Hreg⟩, Hb⟩
  iapply (Rounds.wp_signal 𝒱₀ ER (rd G) (c : Thread nD τ) none (dst := (pr c i : Thread nD τ)) (sem := barS) (r := 0) (d := ⟨bk i, 0⟩)
      (k' := 1) (κ := κ (barCell (pr c i)))
      (by rw [duties_bar]; exact Finset.mem_sigma.mpr ⟨mem_peers.mpr (bk_ne i hi), Finset.mem_singleton_self _⟩)
      (amount_bar G (pr c i) _) () (obar G c (i.val + 1)) (obar_step G c i hi)) $$ [HO Htok Hreg]
  · isplitr; · iapply (inv_at G κ (bar_mem (pr c i))); iexact Hr
    isplitl [HO]; · iexact HO
    isplitl [Htok]; · iexact Htok
    isplitl [Hreg]
    · rw [payload_bar]
      unfold barPay
      rw [pr_bk]
      isplitr; · iexact Hv
      iexact Hreg
    iapply (reached_at G κ (pr c i)); iexact Hr
  iintro HO
  iapply Hk
  isplitl [HO]; · iexists W; iexact HO
  iexact Hb

theorem part5_run (c : Dev nD) (κ : GSem nD τ sig → ℕ) (v44 : BitVec 32) (Kt : (Σ' (_ : BitVec 32), BitVec 32) → sProp 𝕄) :
    iprop(records G κ ∗ reached ER (recvCell c) 0 ∗ sigI G c 0 ∗ (∀ v68, sigI G c 6 -∗ Kt ⟨v68, 8#32⟩))
      ⊢ wp frame (wpE (defs₀ (F := F)) 𝒱₀ c none) Set.univ (part5_ (F := F) c (meW c) (SemArray.scalar (sig.barrier 0 rfl)) v44 8#32) Kt := by
  unfold part5_
  simp only [k0_part5_eq_skeleton]
  unfold k0_part5_skel
  simp only [semSignalWord, Prog.lift, Prog.bind_op, Prog.bind_ret, Prog.pure_eq_ret]
  iintro ⟨#Hr, #Hv, HI, Hk⟩
  iapply (sig_step G c κ 0 (by decide) (d := ⟨k0_dev1 c, k0_dev1_lt c⟩) (Fin.ext (k0_dev1_eq c))) $$ [HI]
  · isplitr; · iexact Hr
    isplitr; · iexact Hv
    iexact HI
  iintro HI
  iapply (sig_step G c κ 1 (by decide) (d := ⟨k0_dev2 c, k0_dev2_lt c⟩) (Fin.ext (k0_dev2_eq c))) $$ [HI]
  · isplitr; · iexact Hr
    isplitr; · iexact Hv
    iexact HI
  iintro HI
  iapply (sig_step G c κ 2 (by decide) (d := ⟨k0_dev3 c, k0_dev3_lt c⟩) (Fin.ext (k0_dev3_eq c))) $$ [HI]
  · isplitr; · iexact Hr
    isplitr; · iexact Hv
    iexact HI
  iintro HI
  iapply (sig_step G c κ 3 (by decide) (d := ⟨k0_dev4 c, k0_dev4_lt c⟩) (Fin.ext (k0_dev4_eq c))) $$ [HI]
  · isplitr; · iexact Hr
    isplitr; · iexact Hv
    iexact HI
  iintro HI
  iapply (sig_step G c κ 4 (by decide) (d := ⟨k0_dev5 c, k0_dev5_lt c⟩) (Fin.ext (k0_dev5_eq c))) $$ [HI]
  · isplitr; · iexact Hr
    isplitr; · iexact Hv
    iexact HI
  iintro HI
  iapply (sig_step G c κ 5 (by decide) (d := ⟨k0_dev6 c, k0_dev6_lt c⟩) (Fin.ext (k0_dev6_eq c))) $$ [HI]
  · isplitr; · iexact Hr
    isplitr; · iexact Hv
    iexact HI
  iintro HI
  rw [wp_ret]; imodintro
  iapply Hk
  iexact HI

/-- The wait for the seven. -/
theorem bar_wait (c : Dev nD) (κ : GSem nD τ sig → ℕ)
    {α : Type} {Qa : α → sProp 𝕄} {k : PUnit → Prog (TpuEff nD τ sig (Elt F) Λ₀ .tc) α} :
    iprop(records G κ ∗ levAts L lv ∗ sigI G c 7 ∗ cred (tallyAt (barCell c) () 7) ∗ atPos ER (barCell c) 0 ∅ 0)
      ⊢ iprop((((∃ W, owes (c : Thread nD τ) (owedFrom G c 0) W) ∗ atPos ER (barCell c) 1 ∅ 0 ∗ bigSep peers fun i => barPay G c i)
            -∗ wp frame (wpE (defs₀ (F := F)) 𝒱₀ c none) Set.univ (k ⟨⟩) Qa)
        -∗ wp frame (wpE (defs₀ (F := F)) 𝒱₀ c none) Set.univ
          (.op (.semWait barS ((7 : ℕ) : ℤ)) k) Qa) := by
  unfold sigI
  iintro ⟨#Hr, #Hl, ⟨⟨%W, HO⟩, -⟩, Hc, Hat⟩ Hk
  rw [obar_seven]
  iapply (Rounds.wp_wait_rest_token 𝒱₀ ER (rd G) (c : Thread nD τ) none (κ := κ (barCell c)) (wpE_semWait_eq 𝒱₀ (c : Thread nD τ) none Set.univ) (Set.mem_univ _) ()
      (O := owedFrom G c 0) (W := W) (R := 0) (m := 0) (T := ∅) ((Nat.zero_add _).trans (expect_bar G c).symm)) $$ [HO Hc Hat]
  · isplitr; · iapply (inv_at G κ (bar_mem c)); iexact Hr
    isplitl [Hc]; · iexact Hc
    isplitl [HO]; · iexact HO
    isplitr; · iapply (mayWait_bar G c); iexact Hl
    iexact Hat
  iintro ⟨HO, Hat, -, Hp⟩
  iapply Hk
  isplitl [HO]; · iexists _; iexact HO
  isplitl [Hat]; · iexact Hat
  iapply (Entails.of_eq ((congrArg (fun S => bigSep S fun d => ((rd G).payload (barCell c) 0 d : sProp 𝕄)) Finset.sdiff_empty).trans (all_bar G c)))
  iexact Hp

end Cert.KernelIdeal.Lookup

end
-- ==== Proof.KI.Drain.lean ====
/-
  The loops that wait: each drains a cell, and what lay on it is collected.
-/
module

public import proofs.«01_k».proof.Proof.KI.Bar

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## Blocks of rows collected -/

/-- Blocks of one buffer, each with a fact about its own rows, as one block with all the facts. -/
theorem collect {ℓ : Loc nD τ sig} {q : PosShare TreeShare} {T : Type} [DecidableEq T] (S : Finset T) (K : T → Finset (Idx ℓ))
    (P : T → Buf (Elt F) ℓ → Prop) (f₀ : Buf (Elt F) ℓ) (h : ∀ t ∈ S, ∀ t' ∈ S, t ≠ t' → Disjoint (K t) (K t'))
    (hP : ∀ t g g', P t g → (∀ i ∈ K t, g' i = g i) → P t g') :
    bigSep S (fun t => (iprop(∃ g, ⌜P t g⌝ ∗ ℓ ↦[K t]{q} g) : sProp 𝕄)) ⊢ iprop(∃ g, ⌜∀ t ∈ S, P t g⌝ ∗ ℓ ↦[S.biUnion K]{q} g) := by
  haveI : ∀ t : T, Nonempty (Buf (Elt F) ℓ) := fun _ => ⟨f₀⟩
  have e1 := bigSep_exists_pi S (fun (t : T) (g : Buf (Elt F) ℓ) => (iprop(⌜P t g⌝ ∗ ℓ ↦[K t]{q} g) : sProp 𝕄))
  have e2 : ∀ fs : T → Buf (Elt F) ℓ, bigSep S (fun t => (iprop(⌜P t (fs t)⌝ ∗ ℓ ↦[K t]{q} fs t) : sProp 𝕄))
      ⊢ iprop(⌜∀ t ∈ S, P t (fs t)⌝ ∗ bigSep S fun t => ℓ ↦[K t]{q} fs t) := fun fs => bigSep_pure_sep S _ _
  have e3 : ∀ fs : T → Buf (Elt F) ℓ, bigSep S (fun t => (ℓ ↦[K t]{q} fs t : sProp 𝕄)) ⊢ (iprop(∃ g, ⌜∀ t ∈ S, ∀ i ∈ K t, g i = fs t i⌝ ∗ ℓ ↦[S.biUnion K]{q} g) : sProp 𝕄) :=
    fun fs => pointsTo_biUnion_join S K fs f₀ h
  iintro H
  ihave H := e1 $$ H
  icases H with ⟨%fs, H⟩
  ihave H := (e2 fs) $$ H
  icases H with ⟨%hfs, H⟩
  ihave H := (e3 fs) $$ H
  icases H with ⟨%g, %hg, H⟩
  iexists g
  isplitr
  · ipureintro; exact fun t ht => hP t (fs t) g (hfs t ht) (hg t ht)
  iexact H

/-- Two blocks, the facts kept. -/
theorem collect2 {ℓ : Loc nD τ sig} {q : PosShare TreeShare} (I J : Finset (Idx ℓ)) (h : Disjoint I J) (P Q : Buf (Elt F) ℓ → Prop)
    (hP : ∀ g g', P g → (∀ i ∈ I, g' i = g i) → P g') (hQ : ∀ g g', Q g → (∀ i ∈ J, g' i = g i) → Q g') :
    (iprop((∃ g, ⌜P g⌝ ∗ ℓ ↦[I]{q} g) ∗ (∃ g, ⌜Q g⌝ ∗ ℓ ↦[J]{q} g)) : sProp 𝕄) ⊢ iprop(∃ g, ⌜P g ∧ Q g⌝ ∗ ℓ ↦[I ∪ J]{q} g) := by
  iintro ⟨⟨%f, %hf, H⟩, ⟨%g, %hg, H'⟩⟩
  iexists (J.piecewise g f)
  isplitr
  · ipureintro
    refine ⟨hP f _ hf fun i hi => ?_, hQ g _ hg fun i hi => ?_⟩
    · exact Finset.piecewise_eq_of_notMem _ _ _ (Finset.disjoint_left.mp h hi)
    · exact Finset.piecewise_eq_of_mem _ _ _ hi
  iapply (pointsTo_join h)
  isplitl [H] <;> iassumption

/-! ## A loop of waits -/

theorem drain_loop (c : Dev nD) {κ : ℕ} {sm : SemLoc sig} {O : CellTallies nD τ sig Unit} {N n : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm N K)
    (hM : (levAts L lv : sProp 𝕄) ⊢ MayWait (c : Thread nD τ) sm () O)
    (hexp : (rd G).expect ((c : Thread nD τ), sm) 0 = n * N)
    {lb ub st : BitVec 32} {hok : Scf.OK lb ub st} {body : Fin (Scf.trips lb ub st) → Unit → Prog (TpuEff nD τ sig (Elt F) Λ₀ .tc) Unit}
    (hb : ∀ t a, body t a = .op w fun _ => .ret ⟨⟩) (ht : Scf.trips lb ub st = n)
    {α : Type} {Qa : α → sProp 𝕄} {kk : Unit → Prog (TpuEff nD τ sig (Elt F) Λ₀ .tc) α} :
    iprop(cellInv ER (rd G) κ ((c : Thread nD τ), sm) ∗ levAts L lv ∗ (∃ W, owes (c : Thread nD τ) O W)
        ∗ cred (tallyAt ((c : Thread nD τ), sm) () (n * N)) ∗ atPos ER ((c : Thread nD τ), sm) 0 ∅ 0)
      ⊢ iprop((((∃ W, owes (c : Thread nD τ) O W) ∗ atPos ER ((c : Thread nD τ), sm) 1 ∅ 0
              ∗ bigSep ((rd G).duties ((c : Thread nD τ), sm) 0) fun d => (rd G).payload ((c : Thread nD τ), sm) 0 d)
            -∗ wp frame (wpE (defs₀ (F := F)) 𝒱₀ c none) Set.univ (kk ⟨⟩) Qa)
        -∗ wp frame (wpE (defs₀ (F := F)) 𝒱₀ c none) Set.univ (Scf.for lb ub st hok ⟨⟩ body >>= kk) Qa) := by
  iintro ⟨#Hi, #Hl, ⟨%W, HO⟩, Hc, Hat⟩ Hk
  iapply (Scf.wp_for_bind frame (wpE (defs₀ (F := F)) 𝒱₀ c none) Set.univ _ _ _ hok ⟨⟩ body
    (fun k _ => iprop(cellInv ER (rd G) κ ((c : Thread nD τ), sm) ∗ levAts L lv ∗ drainI G c sm O N n k))
    (fun t a => by
      rw [hb]
      iintro ⟨#Hi, #Hl, HI⟩
      iapply (drainI_step G c hw (lt_of_lt_of_eq t.isLt ht)) $$ [HI]
      · isplitr; · iexact Hi
        isplitr; · iapply hM; iexact Hl
        iexact HI
      iintro HI
      rw [wp_ret]; imodintro
      isplitr; · iexact Hi
      isplitr; · iexact Hl
      iexact HI)) $$ [HO Hc Hat]
  · isplitr; · iexact Hi
    isplitr; · iexact Hl
    iapply (drainI_zero G c sm O N n W)
    isplitl [HO]; · iexact HO
    isplitl [Hc] <;> iassumption
  iintro %a ⟨-, -, HI⟩
  iapply fupd_wp
  imod (drainI_done G c (κ := κ) ht hexp) $$ [HI] with ⟨HO, Hat, Hp⟩
  · isplitr; · iexact Hi
    iexact HI
  imodintro
  iapply Hk
  isplitl [HO]; · iexact HO
  isplitl [Hat] <;> iassumption

/-- A loop of no trips. -/
theorem skip_loop (c : Dev nD) {lb ub st : BitVec 32} {hok : Scf.OK lb ub st} {body : Fin (Scf.trips lb ub st) → Unit → Prog (TpuEff nD τ sig (Elt F) Λ₀ .tc) Unit}
    (ht : Scf.trips lb ub st = 0)
    {α : Type} {Qa : α → sProp 𝕄} {kk : Unit → Prog (TpuEff nD τ sig (Elt F) Λ₀ .tc) α} :
    wp frame (wpE (defs₀ (F := F)) 𝒱₀ c none) Set.univ (kk ⟨⟩) Qa
      ⊢ wp frame (wpE (defs₀ (F := F)) 𝒱₀ c none) Set.univ (Scf.for lb ub st hok ⟨⟩ body >>= kk) Qa := by
  have e1 : (BI.emp : sProp 𝕄) ⊢ _ := (Scf.wp_for_bind (Q := Qa) (kk := kk) frame (wpE (defs₀ (F := F)) 𝒱₀ c none) Set.univ lb ub st hok ⟨⟩ body (fun _ _ => (BI.emp : sProp 𝕄))
    (fun t _ => absurd t.isLt (by omega)))
  iintro H
  iapply e1 $$ []
  · iempintro
  iintro %a -
  iexact H

/-! ## The gather collected -/

/-- What the whole gather buffer holds after the copies. -/
def GatAll (c : Dev nD) (g : (cc0_scratch0 : Ref sig .tc).ty.Contents (Elt F)) : Prop :=
  ∀ x : S8192x128.Idx, (x 0).val < 8 * nOwn G c → g x = gv G c (x 0).val (x 1).val

theorem biUnion_rows {R : ℕ} (b n : ℕ) (hb : 0 < b) : (Finset.range n).biUnion (fun k => rows R (b * k) b) = rows R 0 (b * n) := by
  ext x
  rw [Finset.mem_biUnion, mem_rows]
  constructor
  · rintro ⟨k, hk, hx⟩
    rw [mem_rows] at hx
    rw [Finset.mem_range] at hk
    have : b * (k + 1) ≤ b * n := Nat.mul_le_mul_left _ hk
    rw [Nat.mul_add, Nat.mul_one] at this
    omega
  · rintro ⟨-, hx⟩
    refine ⟨(x 0).val / b, Finset.mem_range.mpr (Nat.div_lt_of_lt_mul (by omega)), ?_⟩
    rw [mem_rows]
    have h1 := Nat.div_add_mod (x 0).val b
    have h2 := Nat.mod_lt (x 0).val hb
    omega

theorem gat_collect (hG : Good G) (c : Dev nD) :
    (iprop((bigSep (Finset.range (nOwn G c)) fun k => gatPay G c k) ∗ gatRest G c) : sProp 𝕄)
      ⊢ iprop(∃ g, ⌜GatAll G c g⌝ ∗ ((c : Thread nD τ).loc cc0_scratch0) ↦{fullShare} g) := by
  have hc := hG.cap c
  have e1 : (bigSep (Finset.range (nOwn G c)) fun k => (gatPay G c k : sProp 𝕄)) ⊢ iprop(∃ g, ⌜∀ k ∈ Finset.range (nOwn G c), GatOK G c k g⌝
      ∗ ((c : Thread nD τ).loc cc0_scratch0) ↦[(Finset.range (nOwn G c)).biUnion fun k => rows 8192 (8 * k) 8]{fullShare} g) := by
    unfold gatPay
    exact collect (ℓ := (c : Thread nD τ).loc cc0_scratch0) (Finset.range (nOwn G c)) (fun k => rows 8192 (8 * k) 8) (fun k g => GatOK G c k g)
      (fun _ => tabAt G c 0 0)
      (fun t _ t' _ hne => rows_disjoint (a := 8 * t) (n := 8) (b := 8 * t') (k := 8) (by omega))
      (fun t g g' h h' x hx => (h' x hx).trans (h x hx))
  unfold gatRest
  iintro ⟨Hp, ⟨%g', Hr⟩⟩
  ihave Hp := e1 $$ Hp
  icases Hp with ⟨%g, %hg, Hp⟩
  ihave Hp := (Entails.of_eq (congrArg (fun S => (((c : Thread nD τ).loc cc0_scratch0) ↦[S]{fullShare} g : sProp 𝕄)) (biUnion_rows 8 (nOwn G c) (by omega)))) $$ Hp
  ihave H := (pointsTo_join (ℓ := (c : Thread nD τ).loc cc0_scratch0) (I := rows 8192 0 (8 * nOwn G c)) (J := rows 8192 (8 * nOwn G c) (8192 - 8 * nOwn G c)) (rows_disjoint (by omega))) $$ [Hp Hr]
  · isplitl [Hp]; · iexact Hp
    iexact Hr
  iexists _
  isplitr
  rotate_left
  · iapply (Entails.of_eq (congrArg (fun S => (((c : Thread nD τ).loc cc0_scratch0) ↦[S]{fullShare} _ : sProp 𝕄))
      (show rows 8192 0 (8 * nOwn G c) ∪ rows 8192 (8 * nOwn G c) (8192 - 8 * nOwn G c) = Finset.univ by
        rw [← rows_univ, rows_front (R := 8192) (a := 0) (n := 8 * nOwn G c) (m := 8192) (by omega), Nat.zero_add])))
    iexact H
  ipureintro
  intro x hx
  have h1 : x ∉ rows 8192 (8 * nOwn G c) (8192 - 8 * nOwn G c) := by rw [mem_rows]; omega
  refine (Finset.piecewise_eq_of_notMem _ _ _ h1).trans ?_
  exact hg ((x 0).val / 8) (Finset.mem_range.mpr (by omega)) x (by rw [mem_rows]; omega)

end Cert.KernelIdeal.Lookup

end
-- ==== Proof.KI.Send.lean ====
/-
  The exchange: each chunk of the staged rows to the seven peers and to the device itself.
-/
module

public import proofs.«01_k».proof.Proof.KI.Drain

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## The shares of a staged chunk -/

theorem peers_range (Φ : ℕ → sProp 𝕄) : bigSep (Finset.range 7) Φ = bigSep peers fun i => Φ i.val := by
  rw [show Finset.range 7 = peers.image Fin.val by decide, bigSep_image_of_injOn (fun _ _ _ _ h => Fin.ext h)]

theorem split_shares (c : Dev nD) (a n : ℕ) (g : (cc0_scratch1 : Ref sig .tc).ty.Contents (Elt F)) :
    (stgPt c a n fullShare g : sProp 𝕄) ⊢ iprop(stgPt c a n (sh 7) g ∗ bigSep peers fun i => stgPt c a n (sh i) g) := by
  have e1 : (stgPt c a n fullShare g : sProp 𝕄) ⊢ iprop(stgPt c a n (shareDrop fullShare 7) g ∗ bigSep (Finset.range 7) fun i => stgPt c a n (shareTokN fullShare i) g) :=
    (Transfers.pointsTo_toks_range fullShare 7).1
  refine e1.trans ?_
  rw [peers_range]
  rw [bigSep_congr (s := peers) (Φ := fun i => (stgPt c a n (shareTokN fullShare i.val) g : sProp 𝕄)) (Ψ := fun i => stgPt c a n (sh i) g) fun i hi => by
    rw [show sh i = shareTokN fullShare i.val from if_pos (by have := mem_peers.mp hi; omega)]]
  exact .rfl

/-! ## One copy -/

/-- What lands of chunk `j` is the sender's packed rows. -/
theorem rcv_ok (c d : Dev nD) {j : ℕ} {g : (cc0_scratch1 : Ref sig .tc).ty.Contents (Elt F)} (hg : StgOK G c g) (hj : j < 12)
    {off7 off8 : Fin 2 → ℕ} (inb7 : ∀ i, off7 i + S256x128.size i ≤ S24576x128.size i) (inb8 : ∀ i, off8 i + S256x128.size i ≤ S8192x128.size i)
    (h7 : off7 = ![cb c j, 0]) (h8 : off8 = ![256 * j, 0]) (fd : (cc0_scratch2 : Ref sig .tc).ty.Contents (Elt F)) :
    RcvOK G c j
      (((View.whole cc0_scratch2).slice (Rect.unit (s := S24576x128) off7 S256x128.size inb7)).write (Elt F) fd
        (((View.whole cc0_scratch1).slice (Rect.unit (s := S8192x128) off8 S256x128.size inb8)).read (Elt F) g) Finset.univ) := by
  intro x hx hlt
  rw [mem_rows] at hx
  have hx1 : (x 1).val < 128 := (x 1).isLt
  have hc : c.val < 8 := c.isLt
  subst h7 h8
  have hcb : cb c j = 3072 * c.val + 256 * j := by show 8 * (384 * c.val + 32 * j) = _; ring
  let y : S256x128.Idx := fun a => match a with
    | 0 => ⟨(x 0).val - cb c j, by show _ < 256; omega⟩
    | 1 => ⟨(x 1).val, hx1⟩
  refine (write_at (Val := Elt F) cc0_scratch2 (inb := inb7) fd _ y ?_).trans ?_
  · intro a
    fin_cases a
    · show (x 0).val = cb c j + ((x 0).val - cb c j); omega
    · show (x 1).val = 0 + (x 1).val; omega
  have hrow : (x 0).val - 3072 * c.val < 8192 := by omega
  refine (read_at (Val := Elt F) cc0_scratch1 (inb := inb8) g y
    (x := ix2 (R := 8192) ⟨(x 0).val - 3072 * c.val, hrow⟩ (x 1)) ?_).trans ?_
  · intro a
    fin_cases a
    · show (x 0).val - 3072 * c.val = 256 * j + ((x 0).val - cb c j); omega
    · show (x 1).val = 0 + (x 1).val; omega
  exact hg _ (show (x 0).val - 3072 * c.val < 8 * nOwn G c by omega)

/-- What the copies of one chunk to one peer need. -/
def sndR (c : Dev nD) (i : Fin 8) (j : ℕ) : sProp 𝕄 :=
  iprop(dutyTok ER (sendCell c) 0 ⟨i, j⟩ ∗ dutyTok ER (recvCell (pr c i)) 0 ⟨c, j⟩ ∗ ∃ g, rcvPt (pr c i) (cb c j) 256 g)
/-- What the local copy needs. -/
def selfR (c : Dev nD) (j : ℕ) : sProp 𝕄 := iprop(dutyTok ER (recvCell c) 0 ⟨c, j⟩ ∗ ∃ g, rcvPt c (cb c j) 256 g)

/-- Within chunk `j`, before the copy to offset `k`. -/
def sndI (c : Dev nD) (j : ℕ) (g : (cc0_scratch1 : Ref sig .tc).ty.Contents (Elt F)) (k : ℕ) : sProp 𝕄 :=
  iprop((∃ W, owes (c : Thread nD τ) (owedMid G c j k) W)
    ∗ (bigSep (peers.filter (k ≤ ·.val)) fun i => iprop(sndR c i j ∗ stgPt c (256 * j) 256 (sh i) g))
    ∗ cred (tallyAt (sendCell c) () ((7 * j + k) * 2048)))

/-- The receive cells of the peers are at their first round. -/
abbrev peersReady (c : Dev nD) : sProp 𝕄 := bigSep peers fun i => reached ER (recvCell (pr c i)) 0

theorem send_step (hG : Good G) (c : Dev nD) (κ : GSem nD τ sig → ℕ) {j : ℕ} (hj : j < nc G c) (i : Fin 8) (hi : i ≠ 7)
    {off7 off8 : Fin 2 → ℕ} {inb7 : ∀ i, off7 i + S256x128.size i ≤ S24576x128.size i} {inb8 : ∀ i, off8 i + S256x128.size i ≤ S8192x128.size i}
    (h7 : off7 = ![cb c j, 0]) (h8 : off8 = ![256 * j, 0])
    {g : (cc0_scratch1 : Ref sig .tc).ty.Contents (Elt F)} (hg : StgOK G c g) {d : Dev nD} (hd : d = pr c i)
    {h0 h1 h2 h3} {α : Type} {Qa : α → sProp 𝕄} {k : PUnit → Prog (TpuEff nD τ sig (Elt F) Λ₀ .tc) α} :
    iprop(records G κ ∗ reached ER (sendCell c) 0 ∗ peersReady c ∗ sndI G c j g i.val)
      ⊢ iprop((sndI G c j g (i.val + 1) -∗ wp frame (wpE (defs₀ (F := F)) 𝒱₀ c none) Set.univ (k ⟨⟩) Qa)
        -∗ wp frame (wpE (defs₀ (F := F)) 𝒱₀ c none) Set.univ
          (.op (.enqueueDma ((Memref.whole cc0_scratch1).slice (Rect.unit (s := S8192x128) off8 S256x128.size inb8) (fun _ => rfl))
            (.remote (Dev.tc d) ((Memref.whole cc0_scratch2).slice (Rect.unit (s := S24576x128) off7 S256x128.size inb7) (fun _ => rfl)) (.dma sendS) h0)
            (.dma recvS) h1 h2 h3) k) Qa) := by
  subst hd
  have hj12 : j < 12 := lt_of_lt_of_le hj (nc_le hG c)
  have e : (bigSep (peers.filter (i.val ≤ ·.val)) fun i => (iprop(sndR c i j ∗ stgPt c (256 * j) 256 (sh i) g) : sProp 𝕄))
      ⊢ iprop((sndR c i j ∗ stgPt c (256 * j) 256 (sh i) g)
        ∗ bigSep (peers.filter (i.val + 1 ≤ ·.val)) fun i => (iprop(sndR c i j ∗ stgPt c (256 * j) 256 (sh i) g) : sProp 𝕄)) := by
    rw [from_step i hi]
    exact Entails.of_eq (bigSep_insert (from_notMem i))
  have er : (peersReady c : sProp 𝕄) ⊢ reached ER (recvCell (pr c i)) 0 := bigSep_elim (mem_peers.mpr hi)
  unfold sndI
  iintro ⟨#Hr, #Hs, #Hp, ⟨%W, HO⟩, Hb, Hcr⟩ Hk
  ihave Hb2 := e $$ Hb
  unfold sndR
  icases Hb2 with ⟨⟨⟨HtS, HtR, ⟨%fd, Hd⟩⟩, Hst⟩, Hb⟩
  iapply (Rounds.wp_send_pointsTo 𝒱₀ ER (rd G) (c : Thread nD τ) none (c' := (pr c i : Thread nD τ))
      (src := (Memref.whole cc0_scratch1).slice (Rect.unit (s := S8192x128) off8 S256x128.size inb8) (fun _ => rfl))
      (dst := (Memref.whole cc0_scratch2).slice (Rect.unit (s := S24576x128) off7 S256x128.size inb7) (fun _ => rfl))
      (sS := .dma sendS) (sem := .dma recvS) (q := sh i) (fs := g) (fd := fd) (r₁ := 0) (r₂ := 0)
      (d₁ := ⟨i, j⟩) (d₂ := ⟨c, j⟩) (κ₁ := κ (sendCell c)) (κ₂ := κ (recvCell (pr c i)))
      (by rw [duties_send]; exact Finset.mem_sigma.mpr ⟨mem_peers.mpr hi, Finset.mem_range.mpr hj⟩)
      (by rw [duties_recv]; exact Finset.mem_sigma.mpr ⟨Finset.mem_univ _, Finset.mem_range.mpr hj⟩)
      () () 2048 amt_recv (amount_send G c _) (amount_recv G (pr c i) _) (owedMid G c j (i.val + 1)) (owedMid_step G c j i hi)
      (by
        rw [payload_send]; unfold sendPay
        iintro H
        iexists g
        iapply (Entails.of_eq (congrArg (fun S => (((c : Thread nD τ).loc cc0_scratch1) ↦[S]{sh i} g : sProp 𝕄))
            ((View.set_slice_whole _ _).trans (set_rows h8 inb8)))) $$ H)
      (by
        rw [payload_recv]; unfold recvPay landPay
        rw [if_neg (pr_ne c i hi)]
        iintro H
        isplitr []
        · iexists _
          isplitr
          · ipureintro; exact rcv_ok G c (pr c i) hg hj12 inb7 inb8 h7 h8 fd
          · iapply (Entails.of_eq (congrArg (fun S => (((pr c i : Thread nD τ).loc cc0_scratch2) ↦[S]{fullShare} _ : sProp 𝕄))
              ((View.set_slice_whole _ _).trans (set_rows h7 inb7)))) $$ H
        · iempintro)) $$ [HO HtS HtR Hd Hst]
  · isplitr; · iapply (inv_at G κ (send_mem c)); iexact Hr
    isplitr; · iapply (inv_at G κ (recv_mem (pr c i))); iexact Hr
    isplitl [Hst]
    · iapply (Entails.of_eq (congrArg (fun S => (((c : Thread nD τ).loc cc0_scratch1) ↦[S]{sh i} g : sProp 𝕄))
            ((View.set_slice_whole _ _).trans (set_rows h8 inb8)).symm)) $$ Hst
    isplitl [Hd]
    · iapply (Entails.of_eq (congrArg (fun S => (((pr c i : Thread nD τ).loc cc0_scratch2) ↦[S]{fullShare} _ : sProp 𝕄))
              ((View.set_slice_whole _ _).trans (set_rows h7 inb7)).symm)) $$ Hd
    isplitl [HO]; · iexact HO
    isplitl [HtS]; · iexact HtS
    isplitr; · iexact Hs
    isplitl [HtR]; · iexact HtR
    iapply er; iexact Hp
  iintro ⟨Hc1, HO⟩
  iapply Hk
  isplitl [HO]; · iexists W; iexact HO
  isplitl [Hb]; · iexact Hb
  iapply (Entails.of_eq (cred_tallyAt_succ (sendCell c) () (N := 2048) (7 * j + i.val)).symm)
  isplitl [Hcr] <;> iassumption

theorem self_step (hG : Good G) (c : Dev nD) (κ : GSem nD τ sig → ℕ) {j : ℕ} (hj : j < nc G c)
    {off7 off8 : Fin 2 → ℕ} {inb7 : ∀ i, off7 i + S256x128.size i ≤ S24576x128.size i} {inb8 : ∀ i, off8 i + S256x128.size i ≤ S8192x128.size i}
    (h7 : off7 = ![cb c j, 0]) (h8 : off8 = ![256 * j, 0])
    {g : (cc0_scratch1 : Ref sig .tc).ty.Contents (Elt F)} (hg : StgOK G c g)
    {h1 h2 h3} {α : Type} {Qa : α → sProp 𝕄} {k : PUnit → Prog (TpuEff nD τ sig (Elt F) Λ₀ .tc) α} :
    iprop(records G κ ∗ reached ER (recvCell c) 0 ∗ selfR c j ∗ stgPt c (256 * j) 256 (sh 7) g)
      ⊢ iprop((cred (tallyAt (recvCell c) () 2048) -∗ wp frame (wpE (defs₀ (F := F)) 𝒱₀ c none) Set.univ (k ⟨⟩) Qa)
        -∗ wp frame (wpE (defs₀ (F := F)) 𝒱₀ c none) Set.univ
          (.op (.enqueueDma ((Memref.whole cc0_scratch1).slice (Rect.unit (s := S8192x128) off8 S256x128.size inb8) (fun _ => rfl))
            (.here ((Memref.whole cc0_scratch2).slice (Rect.unit (s := S24576x128) off7 S256x128.size inb7) (fun _ => rfl)))
            (.dma recvS) h1 h2 h3) k) Qa) := by
  have hj12 : j < 12 := lt_of_lt_of_le hj (nc_le hG c)
  unfold selfR
  iintro ⟨#Hr, #Hs, ⟨HtR, ⟨%fd, Hd⟩⟩, Hst⟩ Hk
  iapply (Rounds.wp_copy_pointsTo 𝒱₀ ER (rd G) (c : Thread nD τ) none
      (src := (Memref.whole cc0_scratch1).slice (Rect.unit (s := S8192x128) off8 S256x128.size inb8) (fun _ => rfl))
      (dst := (Memref.whole cc0_scratch2).slice (Rect.unit (s := S24576x128) off7 S256x128.size inb7) (fun _ => rfl))
      (sem := .dma recvS) (q := sh 7) (fs := g) (fd := fd) (r := 0) (d := ⟨c, j⟩) (κ := κ (recvCell c))
      (by rw [duties_recv]; exact Finset.mem_sigma.mpr ⟨Finset.mem_univ _, Finset.mem_range.mpr hj⟩)
      () 2048 amt_recv (amount_recv G c _)
      (by
        rw [payload_recv]; unfold recvPay landPay sendPay
        rw [if_pos rfl]
        iintro ⟨Hd, Hst⟩
        isplitl [Hd]
        · iexists _
          isplitr
          · ipureintro; exact rcv_ok G c c hg hj12 inb7 inb8 h7 h8 fd
          · iapply (Entails.of_eq (congrArg (fun S => (((c : Thread nD τ).loc cc0_scratch2) ↦[S]{fullShare} _ : sProp 𝕄))
              ((View.set_slice_whole _ _).trans (set_rows h7 inb7)))) $$ Hd
        · iexists g
          iapply (Entails.of_eq (congrArg (fun S => (((c : Thread nD τ).loc cc0_scratch1) ↦[S]{sh 7} g : sProp 𝕄))
            ((View.set_slice_whole _ _).trans (set_rows h8 inb8)))) $$ Hst)) $$ [HtR Hd Hst]
  · isplitr; · iapply (inv_at G κ (recv_mem c)); iexact Hr
    isplitl [Hst]
    · iapply (Entails.of_eq (congrArg (fun S => (((c : Thread nD τ).loc cc0_scratch1) ↦[S]{sh 7} g : sProp 𝕄))
            ((View.set_slice_whole _ _).trans (set_rows h8 inb8)).symm)) $$ Hst
    isplitl [Hd]
    · iapply (Entails.of_eq (congrArg (fun S => (((c : Thread nD τ).loc cc0_scratch2) ↦[S]{fullShare} _ : sProp 𝕄))
              ((View.set_slice_whole _ _).trans (set_rows h7 inb7)).symm)) $$ Hd
    isplitl [HtR]; · iexact HtR
    iexact Hs
  iexact Hk

/-! ## The loop -/

/-- Before chunk `j`. -/
def I5 (c : Dev nD) (j : ℕ) : sProp 𝕄 :=
  iprop((∃ W, owes (c : Thread nD τ) (owedFrom G c j) W)
    ∗ (∃ g, ⌜StgOK G c g⌝ ∗ stgPt c (256 * j) (8192 - 256 * j) fullShare g)
    ∗ (bigSep (Finset.Ico j (nc G c)) fun j => iprop((bigSep peers fun i => sndR c i j) ∗ selfR c j))
    ∗ cred (tallyAt (sendCell c) () (7 * j * 2048)) ∗ cred (tallyAt (recvCell c) () (j * 2048)))

theorem t5_step (hG : Good G) (c : Dev nD) (κ : GSem nD τ sig → ℕ) (h3 : k0_chk3 c (BitVec.ofNat 32 (nOwn G c))) (v40 v42 v68 : BitVec 32)
    (j : Fin (k0_t5_loop (BitVec.ofNat 32 (nOwn G c))).trips) (hj : j.val < nc G c) (a : Unit) :
    iprop(records G κ ∗ reached ER (sendCell c) 0 ∗ reached ER (recvCell c) 0 ∗ peersReady c ∗ I5 G c j.val)
      ⊢ wp frame (wpE (defs₀ (F := F)) 𝒱₀ c none) Set.univ
        (t5_body_ (F := F) c (meW c) (BitVec.ofNat 32 (nOwn G c)) h3 v40 v42 (SemArray.scalar (sig.barrier 0 rfl)) v68 8#32 j a)
        (fun _ => I5 G c (j.val + 1)) := by
  have h12 : j.val < 12 := lt_of_lt_of_le hj (nc_le hG c)
  have eI : (bigSep (Finset.Ico j.val (nc G c)) fun j => (iprop((bigSep peers fun i => sndR c i j) ∗ selfR c j) : sProp 𝕄))
      ⊢ iprop(((bigSep peers fun i => sndR c i j.val) ∗ selfR c j.val)
        ∗ bigSep (Finset.Ico (j.val + 1) (nc G c)) fun j => (iprop((bigSep peers fun i => sndR c i j) ∗ selfR c j) : sProp 𝕄)) :=
    Entails.of_eq (bigSep_Ico_succ_bot hj _)
  unfold t5_body_ I5
  iintro ⟨#Hr, #Hs, #Hv, #Hp, ⟨%W, HO⟩, ⟨%g, %hg, Hst⟩, Hb, HcS, HcR⟩
  ihave Hb := eI $$ Hb
  icases Hb with ⟨⟨Hb1, Hself⟩, Hb⟩
  ihave Hst := (Entails.of_eq (congrArg (fun S => (((c : Thread nD τ).loc cc0_scratch1) ↦[S]{fullShare} g : sProp 𝕄))
      (rows_front (R := 8192) (a := 256 * j.val) (n := 256) (m := 8192 - 256 * j.val) (by omega)))) $$ Hst
  ihave Hst := (pointsTo_union (rows_disjoint (by omega))).1 $$ Hst
  icases Hst with ⟨Hs1, Hst⟩
  ihave Hs1 := (split_shares c (256 * j.val) 256 g) $$ Hs1
  icases Hs1 with ⟨Hs7, Hs1⟩
  ihave HI : (sndI G c j.val g 0) $$ [HO Hb1 Hs1 HcS]
  · unfold sndI
    rw [← owedMid_zero G c j.val hj, Finset.filter_true_of_mem fun _ _ => Nat.zero_le _, Nat.add_zero]
    isplitl [HO]; · iexists W; iexact HO
    isplitl [Hb1 Hs1]
    · iapply (Entails.of_eq (bigSep_sep' peers (fun i => (sndR c i j.val : sProp 𝕄)) (fun i => stgPt c (256 * j.val) 256 (sh i) g)).symm)
      isplitl [Hb1] <;> iassumption
    iexact HcS
  unfold k0_t5_body
  simp only [k0_part1_eq_skeleton]
  unfold k0_part1_skel
  simp only [Prog.lift, Prog.bind_op, Prog.bind_ret, Prog.pure_eq_ret]
  iapply (send_step G hG c κ hj 0 (by decide) (off7_eq c _ j h12) (off8_eq _ j h12) hg (d := ⟨k0_dev8 c, k0_dev8_lt c⟩) (Fin.ext (k0_dev8_eq c))) $$ [HI]
  · isplitr; · iexact Hr
    isplitr; · iexact Hs
    isplitr; · iexact Hp
    iexact HI
  iintro HI
  iapply (send_step G hG c κ hj 1 (by decide) (off7_eq c _ j h12) (off8_eq _ j h12) hg (d := ⟨k0_dev9 c, k0_dev9_lt c⟩) (Fin.ext (k0_dev9_eq c))) $$ [HI]
  · isplitr; · iexact Hr
    isplitr; · iexact Hs
    isplitr; · iexact Hp
    iexact HI
  iintro HI
  iapply (send_step G hG c κ hj 2 (by decide) (off7_eq c _ j h12) (off8_eq _ j h12) hg (d := ⟨k0_dev10 c, k0_dev10_lt c⟩) (Fin.ext (k0_dev10_eq c))) $$ [HI]
  · isplitr; · iexact Hr
    isplitr; · iexact Hs
    isplitr; · iexact Hp
    iexact HI
  iintro HI
  iapply (send_step G hG c κ hj 3 (by decide) (off7_eq c _ j h12) (off8_eq _ j h12) hg (d := ⟨k0_dev11 c, k0_dev11_lt c⟩) (Fin.ext (k0_dev11_eq c))) $$ [HI]
  · isplitr; · iexact Hr
    isplitr; · iexact Hs
    isplitr; · iexact Hp
    iexact HI
  iintro HI
  iapply (send_step G hG c κ hj 4 (by decide) (off7_eq c _ j h12) (off8_eq _ j h12) hg (d := ⟨k0_dev12 c, k0_dev12_lt c⟩) (Fin.ext (k0_dev12_eq c))) $$ [HI]
  · isplitr; · iexact Hr
    isplitr; · iexact Hs
    isplitr; · iexact Hp
    iexact HI
  iintro HI
  iapply (send_step G hG c κ hj 5 (by decide) (off7_eq c _ j h12) (off8_eq _ j h12) hg (d := ⟨k0_dev13 c, k0_dev13_lt c⟩) (Fin.ext (k0_dev13_eq c))) $$ [HI]
  · isplitr; · iexact Hr
    isplitr; · iexact Hs
    isplitr; · iexact Hp
    iexact HI
  iintro HI
  iapply (send_step G hG c κ hj 6 (by decide) (off7_eq c _ j h12) (off8_eq _ j h12) hg (d := ⟨k0_dev14 c, k0_dev14_lt c⟩) (Fin.ext (k0_dev14_eq c))) $$ [HI]
  · isplitr; · iexact Hr
    isplitr; · iexact Hs
    isplitr; · iexact Hp
    iexact HI
  iintro HI
  iapply (self_step G hG c κ hj (off7_eq c _ j h12) (off8_eq _ j h12) hg) $$ [Hself Hs7]
  · isplitr; · iexact Hr
    isplitr; · iexact Hv
    isplitl [Hself]; · iexact Hself
    iexact Hs7
  iintro Hc1
  rw [wp_ret]; imodintro
  unfold sndI
  icases HI with ⟨HO, -, HcS⟩
  isplitl [HO]
  · rw [← owedMid_seven]; iexact HO
  isplitl [Hst]
  · iexists g
    isplitr; · ipureintro; exact hg
    rw [show 256 * (j.val + 1) = 256 * j.val + 256 by ring, show 8192 - (256 * j.val + 256) = 8192 - 256 * j.val - 256 by omega]
    iexact Hst
  isplitl [Hb]; · iexact Hb
  isplitl [HcS]
  · rw [show 7 * (j.val + 1) = 7 * j.val + 7 by ring]; iexact HcS
  iapply (Entails.of_eq (cred_tallyAt_succ (recvCell c) () (N := 2048) j.val).symm)
  isplitl [HcR] <;> iassumption

end Cert.KernelIdeal.Lookup

end
-- ==== Proof.KI.Part6.lean ====
/-
  From the last unit of the meeting to the last wait for the copies sent.
-/
module

public import proofs.«01_k».proof.Proof.KI.Send
public import Idealize.ShloMosaic.Lib.Pipeline.Value

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

theorem pay1_at (v : S8192x128.Idx → F .f32) (x : S8192x128.Idx) : (k0_pay1 (F := F) v : S8192x128.Idx → F .bf16) x = tr (v x) := by
  unfold k0_pay1
  rw [shapeCast_self]
  rfl

/-- The staged rows are the gathered ones, packed. -/
theorem stg_ok (c : Dev nD) {g : (cc0_scratch0 : Ref sig .tc).ty.Contents (Elt F)} (hg : GatAll G c g)
    (f : (cc0_scratch1 : Ref sig .tc).ty.Contents (Elt F))
    (inb inb' : ∀ i, (![0, 0] : Fin 2 → ℕ) i + S8192x128.size i ≤ S8192x128.size i) :
    StgOK G c (((View.whole cc0_scratch1).slice (Rect.unit (s := S8192x128) ![0, 0] S8192x128.size inb)).write (Elt F) f
      (k0_pay1 (F := F) (((View.whole cc0_scratch0).slice (Rect.unit (s := S8192x128) ![0, 0] S8192x128.size inb')).read (Elt F) g)) Finset.univ) := by
  intro x hx
  have h0 : ∀ a : Fin 2, (x a).val = (![0, 0] : Fin 2 → ℕ) a + (x a).val := by
    intro a; fin_cases a
    · exact (Nat.zero_add _).symm
    · exact (Nat.zero_add _).symm
  refine (write_at (Val := Elt F) cc0_scratch1 (inb := inb) f _ x h0).trans ?_
  refine (pay1_at _ x).trans ?_
  unfold sv
  refine congrArg tr ?_
  exact (read_at (Val := Elt F) cc0_scratch0 (inb := inb') g x (x := x) h0).trans (hg x hx)

theorem t3_n (hG : Good G) (c : Dev nD) : (k0_t3_loop (BitVec.ofNat 32 (nOwn G c))).trips = nOwn G c :=
  (t3_trips ⟨nOwn G c, by have := hG.cap c; omega⟩).1
theorem t4_n (hG : Good G) (c : Dev nD) : (k0_t4_loop (BitVec.ofNat 32 (nOwn G c))).trips = 0 :=
  (t4_trips ⟨nOwn G c, by have := hG.cap c; omega⟩).1
theorem t5_n (hG : Good G) (c : Dev nD) : (k0_t5_loop (BitVec.ofNat 32 (nOwn G c))).trips = nc G c :=
  (t5_trips ⟨nOwn G c, by have := hG.cap c; omega⟩).1
theorem t6_n (hG : Good G) (c : Dev nD) : (k0_t6_loop (BitVec.ofNat 32 (nOwn G c))).trips = 0 :=
  (t6_trips ⟨nOwn G c, by have := hG.cap c; omega⟩).1
theorem t7_n (hG : Good G) (c : Dev nD) : (k0_t7_loop (BitVec.ofNat 32 (nOwn G c))).trips = nc G c :=
  (t7_trips ⟨nOwn G c, by have := hG.cap c; omega⟩).1
theorem t8_n (hG : Good G) (c : Dev nD) : (k0_t8_loop (BitVec.ofNat 32 (nOwn G c))).trips = 0 :=
  (t8_trips ⟨nOwn G c, by have := hG.cap c; omega⟩).1

theorem may_zero (c : Dev nD) (sm : SemLoc sig) : (levAts L lv : sProp 𝕄) ⊢ MayWait (c : Thread nD τ) sm () 0 := by
  rw [MayWait_zero]
  iintro -
  iempintro

theorem swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty =>
    rw [bigSep_empty, bigSep_congr (s := t) (Ψ := fun _ => (BI.emp : sProp 𝕄)) fun j _ => bigSep_empty, BI.bigSep_emp_const]
  | insert i s hi ih =>
    rw [bigSep_insert hi, ih, bigSep_congr (s := t) (Φ := fun j => bigSep (insert i s) fun i => Φ i j) (Ψ := fun j => iprop(Φ i j ∗ bigSep s fun i => Φ i j)) fun j _ => bigSep_insert hi, bigSep_sep']
    rfl

/-- The tokens of the copies to the peers. -/
def sendToks (c : Dev nD) : sProp 𝕄 :=
  iprop((bigSep peers fun i => bigSep (Finset.range (nc G c)) fun j => dutyTok ER (sendCell c) 0 ⟨i, j⟩)
    ∗ bigSep peers fun i => bigSep (Finset.range (nc G c)) fun j => dutyTok ER (recvCell (pr c i)) 0 ⟨c, j⟩)

/-- Tokens and rows, chunk by chunk. -/
theorem send_res (c : Dev nD) :
    (iprop(sendToks G c ∗ (bigSep peers fun i => region G (pr c i) c) ∗ bigSep (Finset.range (nc G c)) fun j => selfR c j) : sProp 𝕄)
      ⊢ bigSep (Finset.range (nc G c)) fun j => iprop((bigSep peers fun i => sndR c i j) ∗ selfR c j) := by
  have e2 : ∀ j, (bigSep peers fun i => (sndR c i j : sProp 𝕄)) = iprop((bigSep peers fun i => dutyTok ER (sendCell c) 0 ⟨i, j⟩)
      ∗ (bigSep peers fun i => dutyTok ER (recvCell (pr c i)) 0 ⟨c, j⟩) ∗ bigSep peers fun i => iprop(∃ g, rcvPt (pr c i) (cb c j) 256 g)) := fun j => by
    unfold sndR
    rw [bigSep_sep', bigSep_sep']
  have e1 : (bigSep (Finset.range (nc G c)) fun j => (iprop((bigSep peers fun i => sndR c i j) ∗ selfR c j) : sProp 𝕄))
      = iprop(((bigSep (Finset.range (nc G c)) fun j => bigSep peers fun i => dutyTok ER (sendCell c) 0 ⟨i, j⟩)
        ∗ (bigSep (Finset.range (nc G c)) fun j => bigSep peers fun i => dutyTok ER (recvCell (pr c i)) 0 ⟨c, j⟩)
        ∗ bigSep (Finset.range (nc G c)) fun j => bigSep peers fun i => iprop(∃ g, rcvPt (pr c i) (cb c j) 256 g))
        ∗ bigSep (Finset.range (nc G c)) fun j => selfR c j) := by
    rw [bigSep_sep', bigSep_congr fun j _ => e2 j, bigSep_sep', bigSep_sep']
  rw [e1, swap (Finset.range (nc G c)) peers, swap (Finset.range (nc G c)) peers, swap (Finset.range (nc G c)) peers]
  unfold sendToks region
  iintro ⟨⟨H1, H2⟩, H3, H4⟩
  isplitr [H4]
  · isplitl [H1]; · iexact H1
    isplitl [H2]; · iexact H2
    iexact H3
  iexact H4

theorem part6_run (hG : Good G) (c : Dev nD) (κ : GSem nD τ sig → ℕ) (h3 : k0_chk3 c (BitVec.ofNat 32 (nOwn G c))) (v40 v42 v68 : BitVec 32)
    (Kt : (Σ' (_ : BitVec 32), BitVec 32) → sProp 𝕄) :
    iprop(records G κ ∗ levAts L lv ∗ reached ER (sendCell c) 0 ∗ reached ER (recvCell c) 0
        ∗ sigI G c 6 ∗ cred (tallyAt (barCell c) () 7) ∗ atPos ER (barCell c) 0 ∅ 0
        ∗ gatRest G c ∗ cred (tallyAt (gatCell c) () (nOwn G c * 128)) ∗ atPos ER (gatCell c) 0 ∅ 0
        ∗ (∃ f, ((c : Thread nD τ).loc cc0_scratch1) ↦{fullShare} f)
        ∗ sendToks G c ∗ (bigSep (Finset.range (nc G c)) fun j => selfR c j) ∗ atPos ER (sendCell c) 0 ∅ 0
        ∗ (∀ v92, ((∃ W, owes (c : Thread nD τ) 0 W) ∗ atPos ER (barCell c) 1 ∅ 0 ∗ atPos ER (gatCell c) 1 ∅ 0 ∗ atPos ER (sendCell c) 1 ∅ 0
            ∗ (∃ g, ((c : Thread nD τ).loc cc0_scratch0) ↦{fullShare} g)
            ∗ (∃ g, stgPt c (256 * nc G c) (8192 - 256 * nc G c) fullShare g)
            ∗ (bigSep peers fun i => bigSep (Finset.range (nc G c)) fun j => sendPay c i j)
            ∗ cred (tallyAt (recvCell c) () (nc G c * 2048)))
          -∗ Kt ⟨0#32, v92⟩))
      ⊢ wp frame (wpE (defs₀ (F := F)) 𝒱₀ c none) Set.univ
        (part6_ (F := F) c (meW c) (BitVec.ofNat 32 (nOwn G c)) h3 v40 v42 (SemArray.scalar (sig.barrier 0 rfl)) v68 8#32) Kt := by
  have est : ∀ g : (cc0_scratch1 : Ref sig .tc).ty.Contents (Elt F), StgOK G c g →
      ((((c : Thread nD τ).loc cc0_scratch1) ↦{fullShare} g : sProp 𝕄) ⊢ iprop(∃ g, ⌜StgOK G c g⌝ ∗ stgPt c (256 * 0) (8192 - 256 * 0) fullShare g)) := fun g h => by
    iintro H
    iexists g
    isplitr; · ipureintro; exact h
    iapply (Entails.of_eq (congrArg (fun S => (((c : Thread nD τ).loc cc0_scratch1) ↦[S]{fullShare} g : sProp 𝕄)) (rows_univ 8192).symm))
    iexact H
  unfold part6_
  simp only [k0_part6_eq_skeleton]
  unfold k0_part6_skel
  simp only [semSignalWord, semWaitWord, Prog.lift, Prog.bind_op, Prog.bind_ret, Prog.pure_eq_ret]
  iintro ⟨#Hr, #Hl, #Hs, #Hv, HI, Hcb, Hab, Hgr, Hcg, Hag, Hstg, Htoks, Hself, Has, Hk⟩
  iapply (sig_step G c κ 6 (by decide) (d := ⟨k0_dev7 c, k0_dev7_lt c⟩) (Fin.ext (k0_dev7_eq c))) $$ [HI]
  · isplitr; · iexact Hr
    isplitr; · iexact Hv
    iexact HI
  iintro HI
  iapply (bar_wait G c κ) $$ [HI Hcb Hab]
  · isplitr; · iexact Hr
    isplitr; · iexact Hl
    isplitl [HI]; · iexact HI
    isplitl [Hcb] <;> iassumption
  iintro ⟨HO, Hab, Hpay⟩
  unfold barPay
  ihave Hpay := (Entails.of_eq (bigSep_sep' peers (fun i => (reached ER (recvCell (pr c i)) 0 : sProp 𝕄)) (fun i => region G (pr c i) c))) $$ Hpay
  icases Hpay with ⟨#Hp, Hreg⟩
  iapply (drain_loop G c (κ := κ (gatCell c)) (sm := .dma gatS) (O := owedFrom G c 0) (N := 128) (n := nOwn G c)
    (fun K => (wpE_waitDma2_eq 𝒱₀ (c : Thread nD τ) none Set.univ K).trans (congrArg (fun n => waitSpec (c : Thread nD τ) Set.univ (.dma gatS) n K) amt_gat))
    (mayWait_gat G c) (expect_gat G c) (fun _ _ => rfl) (t3_n G hG c)) $$ [HO Hcg Hag]
  · isplitr; · iapply (inv_at G κ (gat_mem c)); iexact Hr
    isplitr; · iexact Hl
    isplitl [HO]; · iexact HO
    isplitl [Hcg] <;> iassumption
  iintro ⟨HO, Hag, Hgp⟩
  ihave Hgp := (Entails.of_eq (all_gat G c)) $$ Hgp
  ihave Hg := (gat_collect G hG c) $$ [Hgp Hgr]
  · isplitl [Hgp] <;> iassumption
  icases Hg with ⟨%g, %hg, Hg⟩
  iapply (skip_loop c (t4_n G hG c))
  iapply (wp_load_rect 𝒱₀ (c : Thread nD τ) none Set.univ (m := Memref.whole cc0_scratch0) (r := Rect.unit (s := S8192x128) ![0, 0] S8192x128.size inb_S8192x128_S8192x128_0_0) (Finset.subset_univ _)) $$ Hg
  iintro Hg
  icases Hstg with ⟨%f, Hstg⟩
  iapply (wp_load_rect 𝒱₀ (c : Thread nD τ) none Set.univ (m := Memref.whole cc0_scratch1) (r := Rect.unit (s := S8192x128) ![0, 0] S8192x128.size inb_S8192x128_S8192x128_0_0) (Finset.subset_univ _)) $$ Hstg
  iintro Hstg
  iapply (wp_store 𝒱₀ (c : Thread nD τ) none Set.univ (m := Memref.whole cc0_scratch1) (r := Rect.unit (s := S8192x128) ![0, 0] S8192x128.size inb_S8192x128_S8192x128_0_0) (Mk := Finset.univ) (Finset.subset_univ _)) $$ Hstg
  iintro Hstg
  ihave HI : (I5 G c 0) $$ [HO Hstg Htoks Hreg Hself]
  · unfold I5
    isplitl [HO]; · iexact HO
    isplitl [Hstg]
    · iapply (est _ (stg_ok G c hg f inb_S8192x128_S8192x128_0_0 inb_S8192x128_S8192x128_0_0))
      iexact Hstg
    isplitl [Htoks Hreg Hself]
    · rw [← Finset.range_eq_Ico]
      iapply (send_res G c)
      isplitl [Htoks]; · iexact Htoks
      isplitl [Hreg] <;> iassumption
    rw [Nat.mul_zero, Nat.zero_mul, tallyAt_zero, tallyAt_zero, cred_zero]
    isplitr <;> iempintro
  iapply (Scf.wp_for_bind frame (wpE (defs₀ (F := F)) 𝒱₀ c none) Set.univ _ _ _ _ ⟨⟩ _
    (fun k _ => iprop(records G κ ∗ reached ER (sendCell c) 0 ∗ reached ER (recvCell c) 0 ∗ peersReady c ∗ I5 G c k))
    (fun t a => by
      iintro ⟨#Hr, #Hs, #Hv, #Hp, HI⟩
      iapply (wp_wand frame (wpE (defs₀ (F := F)) 𝒱₀ c none) Set.univ) $$ [HI]
      · iapply (t5_step G hG c κ h3 v40 v42 v68 t (lt_of_lt_of_eq t.isLt (t5_n G hG c)) a)
        isplitr; · iexact Hr
        isplitr; · iexact Hs
        isplitr; · iexact Hv
        isplitr; · iexact Hp
        iexact HI
      iintro %_ HI
      isplitr; · iexact Hr
      isplitr; · iexact Hs
      isplitr; · iexact Hv
      isplitr; · iexact Hp
      iexact HI)) $$ [HI]
  · isplitr; · iexact Hr
    isplitr; · iexact Hs
    isplitr; · iexact Hv
    isplitr; · iexact Hp
    iexact HI
  iintro %_ ⟨-, -, -, -, HI⟩
  rw [show Scf.trips (k0_t5_loop (BitVec.ofNat 32 (nOwn G c))).lb (k0_t5_loop (BitVec.ofNat 32 (nOwn G c))).ub (k0_t5_loop (BitVec.ofNat 32 (nOwn G c))).st = nc G c from t5_n G hG c]
  unfold I5
  icases HI with ⟨HO, ⟨%gs, -, Hst⟩, -, HcS, HcR⟩
  rw [owedFrom_done G c (nc G c) (le_refl _)]
  iapply (skip_loop c (t6_n G hG c))
  iapply (drain_loop G c (κ := κ (sendCell c)) (sm := .dma sendS) (O := 0) (N := 7 * 2048) (n := nc G c)
    (fun K => (wpE_waitDma2_eq 𝒱₀ (c : Thread nD τ) none Set.univ K).trans (congrArg (fun n => waitSpec (c : Thread nD τ) Set.univ (.dma sendS) n K) amt_send))
    (may_zero c _) (expect_send G c) (fun _ _ => rfl) (t7_n G hG c)) $$ [HO HcS Has]
  · isplitr; · iapply (inv_at G κ (send_mem c)); iexact Hr
    isplitr; · iexact Hl
    isplitl [HO]; · iexact HO
    isplitl [HcS]
    · rw [show nc G c * (7 * 2048) = 7 * nc G c * 2048 by ring]; iexact HcS
    iexact Has
  iintro ⟨HO, Has, Hsp⟩
  ihave Hsp := (Entails.of_eq (all_send G c)) $$ Hsp
  iapply (skip_loop c (t8_n G hG c))
  rw [wp_ret]; imodintro
  iapply Hk
  isplitl [HO]; · iexact HO
  isplitl [Hab]; · iexact Hab
  isplitl [Hag]; · iexact Hag
  isplitl [Has]; · iexact Has
  isplitl [Hg]; · iexists g; iexact Hg
  isplitl [Hst]; · iexists gs; iexact Hst
  isplitl [Hsp] <;> iassumption

end Cert.KernelIdeal.Lookup

end
-- ==== Proof.KI.Tail.lean ====
/-
  The copied shares and rows put together again; the loop that writes the result.
-/
module

public import proofs.«01_k».proof.Proof.KI.Part6

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## The shares of a staged chunk put together again -/

theorem rejoin1 {ℓ : Loc nD τ sig} {S : Finset (Idx ℓ)} {q : PosShare TreeShare} :
    (iprop((∃ f, ℓ ↦[S]{q.left} f) ∗ (∃ f, ℓ ↦[S]{q.right} f)) : sProp 𝕄) ⊢ iprop(∃ f, ℓ ↦[S]{q} f) := by
  iintro ⟨⟨%f, H⟩, ⟨%g, H'⟩⟩
  ihave %h : (iprop(⌜∀ i ∈ S ∩ S, f i = g i ∧ PCS.opDef q.left q.right⌝) : sProp 𝕄) $$ [H H']
  · iapply (pointsTo_agree (ℓ := ℓ) (I := S) (J := S))
    isplitl [H] <;> iassumption
  have e : ((ℓ ↦[S]{q.right} g : sProp 𝕄)) ⊢ ℓ ↦[S]{q.right} f :=
    Entails.of_eq (pointsTo_congr fun i hi => ((h i (Finset.mem_inter.mpr ⟨hi, hi⟩)).1).symm)
  ihave H' := e $$ H'
  iexists f
  iapply (pointsTo_share (q := q) (PosShare.mem_left_op_right _)).2
  isplitl [H] <;> iassumption

theorem rejoin {ℓ : Loc nD τ sig} {S : Finset (Idx ℓ)} {q : PosShare TreeShare} (k : ℕ) :
    (iprop((∃ f, ℓ ↦[S]{shareDrop q k} f) ∗ bigSep (Finset.range k) fun i => iprop(∃ f, ℓ ↦[S]{shareTokN q i} f)) : sProp 𝕄) ⊢ iprop(∃ f, ℓ ↦[S]{q} f) := by
  induction k with
  | zero =>
    iintro ⟨H, -⟩
    iexact H
  | succ k ih =>
    have e : (bigSep (Finset.range (k + 1)) fun i => (iprop(∃ f, ℓ ↦[S]{shareTokN q i} f) : sProp 𝕄))
        ⊢ iprop((∃ f, ℓ ↦[S]{shareTokN q k} f) ∗ bigSep (Finset.range k) fun i => iprop(∃ f, ℓ ↦[S]{shareTokN q i} f)) := by
      rw [Finset.range_add_one]
      exact Entails.of_eq (bigSep_insert Finset.notMem_range_self)
    iintro ⟨H, Hs⟩
    ihave Hs := e $$ Hs
    icases Hs with ⟨Hk, Hs⟩
    iapply ih
    isplitr [Hs]
    · iapply rejoin1
      isplitl [H]; · iexact H
      iexact Hk
    iexact Hs

/-- All eight shares of chunk `j`. -/
theorem chunk_rejoin (c : Dev nD) (j : ℕ) :
    (iprop((bigSep peers fun i => sendPay c i j) ∗ sendPay c 7 j) : sProp 𝕄) ⊢ iprop(∃ f, stgPt c (256 * j) 256 fullShare f) := by
  have e : (bigSep peers fun i => (sendPay c i j : sProp 𝕄)) = bigSep (Finset.range 7) fun i => iprop(∃ f, stgPt c (256 * j) 256 (shareTokN fullShare i) f) := by
    rw [peers_range]
    refine bigSep_congr fun i hi => ?_
    have hi := mem_peers.mp hi
    unfold sendPay sh
    rw [if_pos (by omega)]
  rw [e]
  iintro ⟨Hs, H⟩
  iapply (rejoin (ℓ := (c : Thread nD τ).loc cc0_scratch1) (S := rows 8192 (256 * j) 256) (q := fullShare) 7)
  isplitr [Hs]
  · unfold sendPay
    icases H with ⟨%f, H⟩
    iexists f
    iexact H
  iexact Hs

/-- The whole stage buffer. -/
theorem stg_whole (hG : Good G) (c : Dev nD) :
    (iprop((bigSep peers fun i => bigSep (Finset.range (nc G c)) fun j => sendPay c i j) ∗ (bigSep (Finset.range (nc G c)) fun j => sendPay c 7 j)
      ∗ (∃ g, stgPt c (256 * nc G c) (8192 - 256 * nc G c) fullShare g)) : sProp 𝕄)
      ⊢ iprop(∃ g, ((c : Thread nD τ).loc cc0_scratch1) ↦{fullShare} g) := by
  have hn := nc_le hG c
  have e1 : (iprop((bigSep (Finset.range (nc G c)) fun j => bigSep peers fun i => sendPay c i j) ∗ (bigSep (Finset.range (nc G c)) fun j => sendPay c 7 j)) : sProp 𝕄)
      ⊢ bigSep (Finset.range (nc G c)) fun j => iprop(∃ f, ⌜True⌝ ∗ stgPt c (256 * j) 256 fullShare f) := by
    refine (Entails.of_eq (bigSep_sep' _ _ _).symm).trans (bigSep_mono fun j _ => ?_)
    show (iprop((bigSep peers fun i => sendPay c i j) ∗ sendPay c 7 j) : sProp 𝕄) ⊢ iprop(∃ f, ⌜True⌝ ∗ stgPt c (256 * j) 256 fullShare f)
    iintro H
    ihave H := (chunk_rejoin c j) $$ H
    icases H with ⟨%f, H⟩
    iexists f
    isplitr; · ipureintro; trivial
    iexact H
  have e2 := collect (F := F) (ℓ := (c : Thread nD τ).loc cc0_scratch1) (q := fullShare) (Finset.range (nc G c)) (fun j => rows 8192 (256 * j) 256) (fun _ _ => True)
      (fun _ => tr (tabAt G c 0 0))
      (fun t _ t' _ hne => rows_disjoint (a := 256 * t) (n := 256) (b := 256 * t') (k := 256) (by omega))
      (fun _ _ _ _ _ => trivial)
  rw [swap peers]
  iintro ⟨H1, H2, ⟨%g', Hr⟩⟩
  ihave H := e1 $$ [H1 H2]
  · isplitl [H1] <;> iassumption
  ihave H := e2 $$ H
  icases H with ⟨%g, -, H⟩
  ihave H := (Entails.of_eq (congrArg (fun S => (((c : Thread nD τ).loc cc0_scratch1) ↦[S]{fullShare} g : sProp 𝕄)) (biUnion_rows 256 (nc G c) (by omega)))) $$ H
  ihave H := (pointsTo_join (ℓ := (c : Thread nD τ).loc cc0_scratch1) (I := rows 8192 0 (256 * nc G c)) (J := rows 8192 (256 * nc G c) (8192 - 256 * nc G c)) (rows_disjoint (by omega))) $$ [H Hr]
  · isplitl [H]; · iexact H
    iexact Hr
  iexists _
  iapply (Entails.of_eq (congrArg (fun S => (((c : Thread nD τ).loc cc0_scratch1) ↦[S]{fullShare} _ : sProp 𝕄))
      (show rows 8192 0 (256 * nc G c) ∪ rows 8192 (256 * nc G c) (8192 - 256 * nc G c) = Finset.univ by
        rw [← rows_univ, rows_front (R := 8192) (a := 0) (n := 256 * nc G c) (m := 8192) (by omega), Nat.zero_add])))
  iexact H

/-! ## The receive buffer cut by sender, and put together again -/

/-- The rows of a sender's part that it does not write. -/
def rcvRest (c : Dev nD) : sProp 𝕄 :=
  bigSep Finset.univ fun s : Dev nD => iprop(∃ g, rcvPt c (cb s (nc G s)) (3072 - 256 * nc G s) g)

theorem biUnion_cb (s : Dev nD) (n : ℕ) : (Finset.range n).biUnion (fun j => rows 24576 (cb s j) 256) = rows 24576 (3072 * s.val) (256 * n) := by
  ext x
  rw [Finset.mem_biUnion, mem_rows]
  constructor
  · rintro ⟨k, hk, hx⟩
    rw [mem_rows] at hx
    rw [Finset.mem_range] at hk
    unfold cb at hx
    omega
  · rintro ⟨h1, hx⟩
    refine ⟨((x 0).val - 3072 * s.val) / 256, Finset.mem_range.mpr (Nat.div_lt_of_lt_mul (by omega)), ?_⟩
    rw [mem_rows]
    unfold cb
    omega

theorem cover_rcv : (Finset.univ : Finset (Dev nD)).biUnion (fun s => rows 24576 (3072 * s.val) 3072) = Finset.univ := by
  ext x
  have hx : (x 0).val < 24576 := (x 0).isLt
  simp only [Finset.mem_biUnion, Finset.mem_univ, true_and, iff_true]
  refine ⟨⟨(x 0).val / 3072, by show _ < 8; omega⟩, ?_⟩
  rw [mem_rows]
  show 3072 * ((x 0).val / 3072) ≤ (x 0).val ∧ (x 0).val < 3072 * ((x 0).val / 3072) + 3072
  omega

theorem cb_eq (s : Dev nD) (j : ℕ) : cb s j = 3072 * s.val + 256 * j := by
  show 8 * (384 * s.val + 32 * j) = _
  ring

theorem rcv_split (hG : Good G) (c : Dev nD) (g : (cc0_scratch2 : Ref sig .tc).ty.Contents (Elt F)) :
    (((c : Thread nD τ).loc cc0_scratch2) ↦{fullShare} g : sProp 𝕄) ⊢ iprop((bigSep Finset.univ fun s : Dev nD => region G c s) ∗ rcvRest G c) := by
  have e1 : (((c : Thread nD τ).loc cc0_scratch2) ↦{fullShare} g : sProp 𝕄) ⊢ bigSep Finset.univ fun s : Dev nD => rcvPt c (3072 * s.val) 3072 g := by
    have e := pointsTo_biUnion (Ix := Unit) (Val := Elt F) (Name := ℕ) (U := UU) (Lvl := ℕ) (ℓ := (c : Thread nD τ).loc cc0_scratch2) (q := fullShare) (f := g) (Finset.univ : Finset (Dev nD)) (fun s => rows 24576 (3072 * s.val) 3072)
      (fun s _ s' _ hne => rows_disjoint (a := 3072 * s.val) (n := 3072) (b := 3072 * s'.val) (k := 3072) (by
        have : s.val ≠ s'.val := fun h => hne (Fin.ext h)
        omega))
    rw [cover_rcv] at e
    exact Entails.of_eq e
  have e2 : ∀ s : Dev nD, (rcvPt c (3072 * s.val) 3072 g : sProp 𝕄) ⊢ iprop(region G c s ∗ ∃ g, rcvPt c (cb s (nc G s)) (3072 - 256 * nc G s) g) := fun s => by
    have hn := nc_le hG s
    have e3 : (rcvPt c (3072 * s.val) (256 * nc G s) g : sProp 𝕄) ⊢ bigSep (Finset.range (nc G s)) fun j => rcvPt c (cb s j) 256 g := by
      have e := pointsTo_biUnion (Ix := Unit) (Val := Elt F) (Name := ℕ) (U := UU) (Lvl := ℕ) (ℓ := (c : Thread nD τ).loc cc0_scratch2) (q := fullShare) (f := g) (Finset.range (nc G s)) (fun j => rows 24576 (cb s j) 256)
        (fun j _ j' _ hne => rows_disjoint (a := cb s j) (n := 256) (b := cb s j') (k := 256) (by rw [cb_eq, cb_eq]; omega))
      rw [biUnion_cb] at e
      exact Entails.of_eq e
    iintro H
    ihave H := (Entails.of_eq (congrArg (fun S => (((c : Thread nD τ).loc cc0_scratch2) ↦[S]{fullShare} g : sProp 𝕄))
      (rows_front (R := 24576) (a := 3072 * s.val) (n := 256 * nc G s) (m := 3072) (by omega)))) $$ H
    ihave H := (pointsTo_union (rows_disjoint (by omega))).1 $$ H
    icases H with ⟨H, Hr⟩
    isplitl [H]
    · unfold region
      have e4 : (bigSep (Finset.range (nc G s)) fun j => (rcvPt c (cb s j) 256 g : sProp 𝕄)) ⊢ bigSep (Finset.range (nc G s)) fun j => iprop(∃ g, rcvPt c (cb s j) 256 g) :=
        bigSep_mono fun j _ => (show (rcvPt c (cb s j) 256 g : sProp 𝕄) ⊢ iprop(∃ g, rcvPt c (cb s j) 256 g) by iintro H; iexists g; iexact H)
      iapply e4
      iapply e3
      iexact H
    iexists g
    rw [show cb s (nc G s) = 3072 * s.val + 256 * nc G s from cb_eq s _]
    iexact Hr
  have e5 : (bigSep Finset.univ fun s : Dev nD => (rcvPt c (3072 * s.val) 3072 g : sProp 𝕄)) ⊢ bigSep Finset.univ fun s : Dev nD => iprop(region G c s ∗ ∃ g, rcvPt c (cb s (nc G s)) (3072 - 256 * nc G s) g) :=
    bigSep_mono fun s _ => e2 s
  iintro H
  unfold rcvRest
  iapply (Entails.of_eq (bigSep_sep' (Finset.univ : Finset (Dev nD)) (fun s => region G c s) _))
  iapply e5
  iapply e1
  iexact H

/-- What the receive buffer holds after all the copies. -/
def RcvAll (g : (cc0_scratch2 : Ref sig .tc).ty.Contents (Elt F)) : Prop :=
  ∀ s : Dev nD, ∀ x : S24576x128.Idx, 3072 * s.val ≤ (x 0).val → (x 0).val < 3072 * s.val + 8 * nOwn G s → g x = sv G s ((x 0).val - 3072 * s.val) (x 1).val

theorem rcv_whole (hG : Good G) (c : Dev nD) :
    (iprop((bigSep Finset.univ fun s : Dev nD => bigSep (Finset.range (nc G s)) fun j => landPay G c s j) ∗ rcvRest G c) : sProp 𝕄)
      ⊢ iprop(∃ g, ⌜RcvAll G g⌝ ∗ ((c : Thread nD τ).loc cc0_scratch2) ↦{fullShare} g) := by
  have e2 : ∀ s : Dev nD, (iprop((bigSep (Finset.range (nc G s)) fun j => landPay G c s j) ∗ (∃ g, rcvPt c (cb s (nc G s)) (3072 - 256 * nc G s) g)) : sProp 𝕄)
      ⊢ iprop(∃ g, ⌜∀ j ∈ Finset.range (nc G s), RcvOK G s j g⌝ ∗ rcvPt c (3072 * s.val) 3072 g) := fun s => by
    have hn := nc_le hG s
    have e3 : (bigSep (Finset.range (nc G s)) fun j => (landPay G c s j : sProp 𝕄)) ⊢ iprop(∃ g, ⌜∀ j ∈ Finset.range (nc G s), RcvOK G s j g⌝ ∗ ((c : Thread nD τ).loc cc0_scratch2)
        ↦[(Finset.range (nc G s)).biUnion fun j => rows 24576 (cb s j) 256]{fullShare} g) := by
      unfold landPay
      exact collect (ℓ := (c : Thread nD τ).loc cc0_scratch2) (Finset.range (nc G s)) (fun j => rows 24576 (cb s j) 256) (fun j g => RcvOK G s j g)
        (fun _ => tr (tabAt G c 0 0))
        (fun t _ t' _ hne => rows_disjoint (a := cb s t) (n := 256) (b := cb s t') (k := 256) (by rw [cb_eq, cb_eq]; omega))
        (fun t g g' h h' x hx hx2 => (h' x hx).trans (h x hx hx2))
    iintro ⟨H, ⟨%g', Hr⟩⟩
    ihave H := e3 $$ H
    icases H with ⟨%g, %hg, H⟩
    ihave H := (Entails.of_eq (congrArg (fun S => (((c : Thread nD τ).loc cc0_scratch2) ↦[S]{fullShare} g : sProp 𝕄)) (biUnion_cb s (nc G s)))) $$ H
    ihave H := (pointsTo_join (ℓ := (c : Thread nD τ).loc cc0_scratch2) (I := rows 24576 (3072 * s.val) (256 * nc G s)) (J := rows 24576 (cb s (nc G s)) (3072 - 256 * nc G s))
      (rows_disjoint (by rw [cb_eq]; omega))) $$ [H Hr]
    · isplitl [H]; · iexact H
      iexact Hr
    iexists _
    isplitr
    rotate_left
    · iapply (Entails.of_eq (congrArg (fun S => (((c : Thread nD τ).loc cc0_scratch2) ↦[S]{fullShare} _ : sProp 𝕄))
        (show rows 24576 (3072 * s.val) (256 * nc G s) ∪ rows 24576 (cb s (nc G s)) (3072 - 256 * nc G s) = rows 24576 (3072 * s.val) 3072 by
          rw [rows_front (R := 24576) (a := 3072 * s.val) (n := 256 * nc G s) (m := 3072) (by omega)]
          rw [show cb s (nc G s) = 3072 * s.val + 256 * nc G s from cb_eq s _])))
      iexact H
    ipureintro
    intro j hj x hx hx2
    have hj' := Finset.mem_range.mp hj
    have h1 : x ∉ rows 24576 (cb s (nc G s)) (3072 - 256 * nc G s) := by
      rw [mem_rows, cb_eq] at hx ⊢
      omega
    exact (Finset.piecewise_eq_of_notMem _ _ _ h1).trans (hg j hj x hx hx2)
  have e4 := collect (F := F) (ℓ := (c : Thread nD τ).loc cc0_scratch2) (q := fullShare) (Finset.univ : Finset (Dev nD)) (fun s => rows 24576 (3072 * s.val) 3072)
    (fun s g => ∀ j ∈ Finset.range (nc G s), RcvOK G s j g) (fun _ => tr (tabAt G c 0 0))
    (fun s _ s' _ hne => rows_disjoint (a := 3072 * s.val) (n := 3072) (b := 3072 * s'.val) (k := 3072) (by
        have : s.val ≠ s'.val := fun h => hne (Fin.ext h)
        omega))
    (fun s g g' h h' j hj x hx hx2 => (h' x (by
      have := nc_le hG s
      have hj' := Finset.mem_range.mp hj
      rw [mem_rows, cb_eq] at hx
      rw [mem_rows]
      omega)).trans (h j hj x hx hx2))
  have e5 : (bigSep Finset.univ fun s : Dev nD => (iprop((bigSep (Finset.range (nc G s)) fun j => landPay G c s j) ∗ (∃ g, rcvPt c (cb s (nc G s)) (3072 - 256 * nc G s) g)) : sProp 𝕄))
      ⊢ bigSep Finset.univ fun s : Dev nD => iprop(∃ g, ⌜∀ j ∈ Finset.range (nc G s), RcvOK G s j g⌝ ∗ rcvPt c (3072 * s.val) 3072 g) :=
    bigSep_mono fun s _ => e2 s
  unfold rcvRest
  iintro ⟨H, Hr⟩
  ihave H := (Entails.of_eq (bigSep_sep' (Finset.univ : Finset (Dev nD)) (fun s => bigSep (Finset.range (nc G s)) fun j => (landPay G c s j : sProp 𝕄)) _).symm) $$ [H Hr]
  · isplitl [H] <;> iassumption
  ihave H := e5 $$ H
  ihave H := e4 $$ H
  icases H with ⟨%g, %hg, H⟩
  iexists g
  isplitr
  · ipureintro
    intro s x h1 h2
    have hs : nc G s = (nOwn G s + 31) / 32 := nc_eq G s
    refine hg s (Finset.mem_univ _) (((x 0).val - 3072 * s.val) / 256) (Finset.mem_range.mpr ?_) x ?_ h2
    · omega
    · rw [mem_rows, cb_eq]; omega
  iapply (Entails.of_eq (congrArg (fun S => (((c : Thread nD τ).loc cc0_scratch2) ↦[S]{fullShare} g : sProp 𝕄)) cover_rcv))
  iexact H

/-! ## The last loop: each token's rows written to the result -/

abbrev outPt (c : Dev nD) (o : (cc0_stg1_0 : Ref sig .tc).ty.Contents (Elt F)) : sProp 𝕄 :=
  ((c : Thread nD τ).loc cc0_stg1_0) ↦{fullShare} o

/-- Before token `t`. -/
def I11 (c : Dev nD) (t : ℕ) : sProp 𝕄 :=
  iprop(idsPt c (G.ids c) ∗ posPt c (cw (own G c) t) ∗ (∃ g, ⌜RcvAll G g⌝ ∗ ((c : Thread nD τ).loc cc0_scratch2) ↦{fullShare} g)
    ∗ ∃ o, ⌜∀ x : S8192x128.Idx, (x 0).val < 8 * t → o x = outv G c (x 0).val (x 1).val⌝ ∗ outPt c o)

theorem out_ok (hG : Good G) (c : Dev nD) {t : ℕ} (ht : t < 1024) {g : (cc0_scratch2 : Ref sig .tc).ty.Contents (Elt F)} (hg : RcvAll G g)
    {o : (cc0_stg1_0 : Ref sig .tc).ty.Contents (Elt F)} (ho : ∀ x : S8192x128.Idx, (x 0).val < 8 * t → o x = outv G c (x 0).val (x 1).val)
    {off13 off14 : Fin 2 → ℕ} (inb13 : ∀ i, off13 i + S8x128.size i ≤ S24576x128.size i) (inb14 : ∀ i, off14 i + S8x128.size i ≤ S8192x128.size i)
    (h13 : off13 = ![8 * (384 * ((G.ids c t).toNat / 8192) + cnt (own G c) t (own G c t)), 0]) (h14 : off14 = ![8 * t, 0]) :
    ∀ x : S8192x128.Idx, (x 0).val < 8 * (t + 1) →
      (((View.whole cc0_stg1_0).slice (Rect.unit (s := S8192x128) off14 S8x128.size inb14)).write (Elt F) o
        (((View.whole cc0_scratch2).slice (Rect.unit (s := S24576x128) off13 S8x128.size inb13)).read (Elt F) g) Finset.univ) x = outv G c (x 0).val (x 1).val := by
  intro x hx
  have hr := hG.range c t ht
  have hx1 : (x 1).val < 128 := (x 1).isLt
  by_cases hlt : (x 0).val < 8 * t
  · refine (write_off (Val := Elt F) cc0_stg1_0 (inb := inb14) o _ ?_).trans (ho x hlt)
    intro hmem
    have := (Rect.mem_set_unit.mp hmem) 0
    subst h14
    simp at this
    omega
  subst h13 h14
  have hcap : cnt (own G c) t (own G c t) < cnt (own G c) 1024 (own G c t) := cnt_lt_of_lt (own G c) ht
  have hs8 : own G c t < 8 := own_lt hG c ht
  have hsD : (ownD G c t).val = own G c t := ownD_val hG c ht
  have hag := hG.agree c (ownD G c t)
  rw [hsD] at hag
  rw [hag] at hcap
  have hcc := hG.cap (ownD G c t)
  have hown : (G.ids c t).toNat / 8192 = own G c t := rfl
  set k := cnt (own G c) t (own G c t) with hk
  let j : S8x128.Idx := fun a => match a with
    | 0 => ⟨(x 0).val - 8 * t, by show _ < 8; omega⟩
    | 1 => ⟨(x 1).val, hx1⟩
  refine (write_at (Val := Elt F) cc0_stg1_0 (inb := inb14) o _ j ?_).trans ?_
  · intro a
    fin_cases a
    · show (x 0).val = 8 * t + ((x 0).val - 8 * t); omega
    · show (x 1).val = 0 + (x 1).val; omega
  have hrow : 8 * (384 * own G c t + k) + ((x 0).val - 8 * t) < 24576 := by omega
  refine (read_at (Val := Elt F) cc0_scratch2 (inb := inb13) g j
    (x := ix2 (R := 24576) ⟨8 * (384 * own G c t + k) + ((x 0).val - 8 * t), hrow⟩ (x 1)) ?_).trans ?_
  · intro a
    fin_cases a
    · rfl
    · show (x 1).val = 0 + (x 1).val; omega
  have hx8 : (x 0).val / 8 = t := by omega
  refine (hg (ownD G c t) _ (by rw [hsD]; show 3072 * own G c t ≤ 8 * (384 * own G c t + k) + ((x 0).val - 8 * t); omega)
    (by rw [hsD]; show 8 * (384 * own G c t + k) + ((x 0).val - 8 * t) < _; omega)).trans ?_
  unfold outv
  rw [hx8, hsD]
  show sv G (ownD G c t) (8 * (384 * own G c t + k) + ((x 0).val - 8 * t) - 3072 * own G c t) (x 1).val = _
  rw [← hk, show 8 * (384 * own G c t + k) + ((x 0).val - 8 * t) - 3072 * own G c t = 8 * k + (x 0).val % 8 by omega]

theorem ldR (c : Dev nD) (off : Fin 2 → ℕ) (inb : ∀ i, off i + S8x128.size i ≤ S24576x128.size i) (g : (cc0_scratch2 : Ref sig .tc).ty.Contents (Elt F)) {hl}
    {α : Type} {Qa : α → sProp 𝕄} {k : ((Rect.unit (s := S24576x128) off S8x128.size inb).shape.Idx → Elt F .bf16) → Prog (TpuEff nD τ sig (Elt F) Λ₀ .tc) α} :
    (((c : Thread nD τ).loc cc0_scratch2) ↦{fullShare} g : sProp 𝕄)
      ⊢ iprop(((((c : Thread nD τ).loc cc0_scratch2) ↦{fullShare} g) -∗ wp frame (wpE (defs₀ (F := F)) 𝒱₀ c none) Set.univ
            (k (((View.whole cc0_scratch2).slice (Rect.unit (s := S24576x128) off S8x128.size inb)).read (Elt F) g)) Qa)
        -∗ wp frame (wpE (defs₀ (F := F)) 𝒱₀ c none) Set.univ
          (.op (.load (Memref.whole cc0_scratch2) (Rect.unit (s := S24576x128) off S8x128.size inb).toLoadRect hl) k) Qa) := by
  iintro H Hk
  iapply (wp_load_rect 𝒱₀ (c : Thread nD τ) none Set.univ (m := Memref.whole cc0_scratch2) (r := Rect.unit (s := S24576x128) off S8x128.size inb) (Finset.subset_univ _)) $$ H
  iintro H
  iapply Hk
  iexact H

theorem t11_step (hG : Good G) (c : Dev nD) (t : Fin k0_t11_loop.trips) (a : Unit) :
    (I11 G c t.val) ⊢ wp frame (wpE (defs₀ (F := F)) 𝒱₀ c none) Set.univ (t11_body_ (F := F) t a) (fun _ => I11 G c (t.val + 1)) := by
  have ht : t.val < 1024 := lt_of_lt_of_eq t.isLt t11_trips
  have hr := hG.range c t.val ht
  have hcap : cnt (own G c) t.val (own G c t.val) < cnt (own G c) 1024 (own G c t.val) := cnt_lt_of_lt (own G c) ht
  have hsD : (ownD G c t.val).val = own G c t.val := ownD_val hG c ht
  have hag := hG.agree c (ownD G c t.val)
  rw [hsD] at hag
  rw [hag] at hcap
  have hcc := hG.cap (ownD G c t.val)
  have est : ∀ o : (cc0_stg1_0 : Ref sig .tc).ty.Contents (Elt F), (∀ x : S8192x128.Idx, (x 0).val < 8 * (t.val + 1) → o x = outv G c (x 0).val (x 1).val) →
      (outPt c o ⊢ (iprop(∃ o, ⌜∀ x : S8192x128.Idx, (x 0).val < 8 * (t.val + 1) → o x = outv G c (x 0).val (x 1).val⌝ ∗ outPt c o) : sProp 𝕄)) := fun o h => by
    iintro H
    iexists o
    isplitr; · ipureintro; exact h
    iexact H
  unfold t11_body_ I11
  iintro ⟨Hids, Hpos, ⟨%g, %hg, Hg⟩, ⟨%o, %ho, Ho⟩⟩
  unfold k0_t11_body
  simp only [Prog.lift, Prog.bind_op, Prog.bind_ret, Prog.pure_eq_ret]
  iapply (ld0 c _ _ t.val (k0_off11_eq t) (G.ids c)) $$ Hids; iintro Hids
  iapply (wp_assume 𝒱₀ (c : Thread nD τ) none Set.univ (chk5 _ hr))
  iapply (ld4 c _ _ (own G c t.val) (off12_eq _) (cw (own G c) t.val)) $$ Hpos; iintro Hpos
  iapply (wp_assume 𝒱₀ (c : Thread nD τ) none Set.univ (chk6 (G.ids c t.val) (cnt (own G c) t.val (own G c t.val)) hr (by omega)))
  iapply (ld4 c _ _ (own G c t.val) (off12_eq _) (cw (own G c) t.val)) $$ Hpos; iintro Hpos
  iapply (st4 c _ _ (own G c t.val) (off12_eq _) (cw (own G c) t.val)) $$ Hpos; iintro Hpos
  rw [cw_put]
  iapply (ldR c _ _ g) $$ Hg
  iintro Hg
  iapply (wp_load_rect 𝒱₀ (c : Thread nD τ) none Set.univ (m := Memref.whole cc0_stg1_0) (r := Rect.unit (s := S8192x128) (k0_off14 t) S8x128.size (k0_off14_inb t)) (Finset.subset_univ _)) $$ Ho
  iintro Ho
  iapply (wp_store 𝒱₀ (c : Thread nD τ) none Set.univ (m := Memref.whole cc0_stg1_0) (r := Rect.unit (s := S8192x128) (k0_off14 t) S8x128.size (k0_off14_inb t)) (Mk := Finset.univ) (Finset.subset_univ _)) $$ Ho
  iintro Ho
  rw [wp_ret]; imodintro
  isplitl [Hids]; · iexact Hids
  isplitl [Hpos]; · iexact Hpos
  isplitl [Hg]
  · iexists g
    isplitr; · ipureintro; exact hg
    iexact Hg
  have e := out_ok G hG c ht hg ho (k0_off13_inb (G.ids c t.val) (cw (own G c) t.val (own G c t.val)) (chk6 (G.ids c t.val) (cnt (own G c) t.val (own G c t.val)) hr (by omega)))
    (k0_off14_inb t) (off13_eq (G.ids c t.val) (cnt (own G c) t.val (own G c t.val)) hr (by omega)) (k0_off14_eq t)
  iapply (est _ e)
  iexact Ho

end Cert.KernelIdeal.Lookup

end
-- ==== Proof.KI.Body.lean ====
/-
  The whole body, from its cells open at their first round to all of them closed at zero.
-/
module

public import proofs.«01_k».proof.Proof.KI.Tail

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## What enters the body and what leaves it -/

/-- The tokens device `c` pays with. -/
def toks (c : Dev nD) : sProp 𝕄 :=
  iprop((bigSep peers fun i => dutyTok ER (barCell (pr c i)) 0 ⟨bk i, 0⟩) ∗ sendToks G c
    ∗ (bigSep (Finset.range (nc G c)) fun j => dutyTok ER (recvCell c) 0 ⟨c, j⟩)
    ∗ bigSep (Finset.range (nOwn G c)) fun k => dutyTok ER (gatCell c) 0 ⟨0, k⟩)

/-- The cells of device `c` open at their first round. -/
def opened (κ : GSem nD τ sig → ℕ) (c : Dev nD) : sProp 𝕄 :=
  iprop(records G κ ∗ reached ER (gatCell c) 0 ∗ reached ER (sendCell c) 0 ∗ reached ER (recvCell c) 0
    ∗ atPos ER (barCell c) 0 ∅ 0 ∗ atPos ER (gatCell c) 0 ∅ 0 ∗ atPos ER (sendCell c) 0 ∅ 0 ∗ atPos ER (recvCell c) 0 ∅ 0 ∗ toks G c)

/-- The credit it waits with beside what its own copies bring. -/
def creds (c : Dev nD) : sProp 𝕄 :=
  iprop(cred (tallyAt (barCell c) () 7) ∗ cred (tallyAt (recvCell c) () ((tot G - nc G c) * 2048)))

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The result of device `c`. -/
def outF (c : Dev nD) : (cc0_stg1_0 : Ref sig .tc).ty.Contents (Elt F) := fun x => outv G c (x 0).val (x 1).val

def sems0 (c : Dev nD) : sProp 𝕄 := iprop(semVal (gatCell c) 0 ∗ semVal (sendCell c) 0 ∗ semVal (recvCell c) 0)

/-! ## The rows handed out at the start -/

def prE (c : Dev nD) : Fin 8 ≃ Dev nD :=
  Equiv.ofBijective (pr c) ⟨fun i j h => pr_inj c i j h, fun s => pr_surj c s⟩

theorem region_split (c : Dev nD) :
    (bigSep Finset.univ fun s : Dev nD => (region G c s : sProp 𝕄)) ⊢ iprop(region G c c ∗ bigSep peers fun i => region G c (pr c i)) := by
  rw [bigSep_univ_equiv (prE c), bigSep_erase (Finset.mem_univ (7 : Fin 8))]
  show iprop(region G c (pr c 7) ∗ bigSep peers fun i => region G c (pr c i)) ⊢ _
  rw [pr_seven]

theorem self_intro (c : Dev nD) :
    (iprop((bigSep (Finset.range (nc G c)) fun j => dutyTok ER (recvCell c) 0 ⟨c, j⟩) ∗ region G c c) : sProp 𝕄)
      ⊢ bigSep (Finset.range (nc G c)) fun j => selfR c j := by
  unfold region selfR
  exact Entails.of_eq (bigSep_sep' (Finset.range (nc G c)) _ _).symm

theorem sig_intro (c : Dev nD) (W : Waits sig Unit) :
    (iprop(owes (c : Thread nD τ) (O₀ G c) W ∗ (bigSep peers fun i => dutyTok ER (barCell (pr c i)) 0 ⟨bk i, 0⟩) ∗ bigSep peers fun i => region G c (pr c i)) : sProp 𝕄)
      ⊢ sigI G c 0 := by
  unfold sigI
  rw [obar_zero, Finset.filter_true_of_mem fun _ _ => Nat.zero_le _]
  iintro ⟨HO, H1, H2⟩
  isplitl [HO]; · iexists W; iexact HO
  iapply (Entails.of_eq (bigSep_sep' peers (fun i => (dutyTok ER (barCell (pr c i)) 0 ⟨bk i, 0⟩ : sProp 𝕄)) (fun i => region G c (pr c i))).symm)
  isplitl [H1] <;> iassumption

/-- What the receive cell brings. -/
theorem recv_take (c : Dev nD) :
    (bigSep Finset.univ fun s : Dev nD => bigSep (Finset.range (nc G s)) fun j => (recvPay G c s j : sProp 𝕄))
      ⊢ iprop((bigSep Finset.univ fun s : Dev nD => bigSep (Finset.range (nc G s)) fun j => landPay G c s j)
        ∗ bigSep (Finset.range (nc G c)) fun j => sendPay c 7 j) := by
  have e : (bigSep Finset.univ fun s : Dev nD => bigSep (Finset.range (nc G s)) fun j => (recvPay G c s j : sProp 𝕄))
      = iprop((bigSep Finset.univ fun s : Dev nD => bigSep (Finset.range (nc G s)) fun j => landPay G c s j)
        ∗ bigSep Finset.univ fun s : Dev nD => bigSep (Finset.range (nc G s)) fun j => (if s = c then sendPay c 7 j else iprop(emp))) := by
    unfold recvPay
    rw [bigSep_congr (s := (Finset.univ : Finset (Dev nD))) fun s _ => bigSep_sep' (Finset.range (nc G s)) (fun j => (landPay G c s j : sProp 𝕄)) (fun j => if s = c then sendPay c 7 j else iprop(emp)),
      bigSep_sep']
  have e2 : (bigSep Finset.univ fun s : Dev nD => bigSep (Finset.range (nc G s)) fun j => (if s = c then sendPay c 7 j else iprop(emp) : sProp 𝕄))
      ⊢ bigSep (Finset.range (nc G c)) fun j => (if c = c then sendPay c 7 j else iprop(emp) : sProp 𝕄) :=
    bigSep_elim (Finset.mem_univ c)
  have e3 : (bigSep (Finset.range (nc G c)) fun j => (if c = c then sendPay c 7 j else iprop(emp) : sProp 𝕄)) = bigSep (Finset.range (nc G c)) fun j => sendPay c 7 j :=
    bigSep_congr fun j _ => if_pos rfl
  rw [e]
  rw [e3] at e2
  iintro ⟨H1, H2⟩
  isplitl [H1]; · iexact H1
  iapply e2
  iexact H2

theorem nc_le_tot (c : Dev nD) : nc G c ≤ tot G :=
  Finset.single_le_sum (f := fun s => nc G s) (fun _ _ => Nat.zero_le _) (Finset.mem_univ c)

theorem close (κ : ℕ) (g : GSem nD τ sig) :
    iprop(cellInv ER (rd G) κ g ∗ atPos ER g (0 + 1) ∅ 0) ⊢ (|={Set.univ}=> semVal g 0 : sProp 𝕄) :=
  Rounds.cell_close ER (rd G) (Set.mem_univ κ) id (duties_later G g)

/-! ## The body -/

def bodyPre (κ : GSem nD τ sig → ℕ) (c : Dev nD) (W : Waits sig Unit) : sProp 𝕄 :=
  iprop(opened G κ c ∗ creds G c ∗ levAts L lv ∗ scratches c ∗ idsPt c (G.ids c) ∗ tabPt G c fullShare ∗ (∃ o, outPt c o) ∗ owes (c : Thread nD τ) (O₀ G c) W)
def bodyPost (c : Dev nD) : sProp 𝕄 :=
  iprop(semVal (barCell c) 0 ∗ sems0 c ∗ scratches c ∗ idsPt c (G.ids c) ∗ outPt c (outF G c) ∗ ∃ W, owes (c : Thread nD τ) (0 : CellTallies nD τ sig Unit) W)

theorem body_run (hG : Good G) (κ : GSem nD τ sig → ℕ) (c : Dev nD) (W : Waits sig Unit) (Kt : PUnit → sProp 𝕄) :
    iprop(bodyPre G κ c W ∗ (bodyPost G c -∗ Kt ⟨⟩))
      ⊢ wp frame (wpE (defs₀ (F := F)) 𝒱₀ c none) Set.univ (body_ (F := F)) Kt := by
  unfold body_
  simp only [cc0_body_eq_skeleton]
  unfold cc0_body_skel bodyPre opened creds scratches toks
  iintro ⟨⟨⟨#Hr, #Hrg, #Hrs, #Hrr, Hab, Hag, Has, Har, ⟨HtB, HtS, HtR, HtG⟩⟩, ⟨HcB, HcR⟩, #Hl, ⟨⟨%f0, Hs0⟩, Hs1, ⟨%f2, Hs2⟩, ⟨%f3, Hs3⟩, ⟨%f4, Hs4⟩⟩, Hids, Htab, ⟨%o, Ho⟩, HO⟩, Hk⟩
  obtain ⟨g6, hg6⟩ := exists_wds f3
  obtain ⟨g7, hg7⟩ := exists_wds f4
  subst hg6 hg7
  ihave Hs2 := (rcv_split G hG c f2) $$ Hs2
  icases Hs2 with ⟨Hreg, Hrest⟩
  ihave Hreg := (region_split G c) $$ Hreg
  icases Hreg with ⟨Hself, Hreg⟩
  ihave Hself := (self_intro G c) $$ [HtR Hself]
  · isplitl [HtR] <;> iassumption
  ihave HI := (sig_intro G c W) $$ [HO HtB Hreg]
  · isplitl [HO]; · iexact HO
    isplitl [HtB] <;> iassumption
  rw [wp_bind]
  iapply (part3_run c g6 g7 _)
  isplitl [Hs3]; · iexact Hs3
  isplitl [Hs4]; · iexact Hs4
  iintro ⟨Hs3, Hs4⟩
  dsimp only
  rw [wp_bind]
  iapply (part4_run G hG c (κ (gatCell c)) g6 g7 _)
  isplitr; · iapply (inv_at G κ (gat_mem c)); iexact Hr
  isplitr; · iexact Hrg
  isplitl [Hs3]; · iexact Hs3
  isplitl [Hs4]; · iexact Hs4
  isplitl [Hids]; · iexact Hids
  isplitl [Htab]; · iexact Htab
  isplitl [Hs0]
  · iexists f0
    iapply (Entails.of_eq (congrArg (fun S => (((c : Thread nD τ).loc cc0_scratch0) ↦[S]{fullShare} f0 : sProp 𝕄)) (rows_univ 8192).symm))
    iexact Hs0
  isplitl [HtG]; · iexact HtG
  iintro %h3 %v40 %h4 %v44 ⟨Hs3, Hs4, Hids, Hgr, HcG⟩
  dsimp only
  rw [wp_bind]
  iapply (part5_run G c κ v44 _)
  isplitr; · iexact Hr
  isplitr; · iexact Hrr
  isplitl [HI]; · iexact HI
  iintro %v68 HI
  dsimp only
  rw [wp_bind]
  iapply (part6_run G hG c κ h3 v40 (BitVec.ofNat 32 (tot G)) v68 _)
  isplitr; · iexact Hr
  isplitr; · iexact Hl
  isplitr; · iexact Hrs
  isplitr; · iexact Hrr
  isplitl [HI]; · iexact HI
  isplitl [HcB]; · iexact HcB
  isplitl [Hab]; · iexact Hab
  isplitl [Hgr]; · iexact Hgr
  isplitl [HcG]; · iexact HcG
  isplitl [Hag]; · iexact Hag
  isplitl [Hs1]; · iexact Hs1
  isplitl [HtS]; · iexact HtS
  isplitl [Hself]; · iexact Hself
  isplitl [Has]; · iexact Has
  iintro %v92 ⟨HO, Hab, Hag, Has, Hs0, Hst, Hsp, HcM⟩
  have hn := nc_le_tot G c
  have ht9 : (k0_t9_loop (BitVec.ofNat 32 (tot G))).trips = tot G := t9_trips ⟨tot G, by have := tot_le G hG; omega⟩
  have ht10 : (k0_t10_loop (BitVec.ofNat 32 (tot G))).trips = 0 := t10_trips ⟨tot G, by have := tot_le G hG; omega⟩
  iapply (drain_loop G c (κ := κ (recvCell c)) (sm := .dma recvS) (O := 0) (N := 2048) (n := tot G)
    (fun K => (wpE_waitDma2_eq 𝒱₀ (c : Thread nD τ) none Set.univ K).trans (congrArg (fun n => waitSpec (c : Thread nD τ) Set.univ (.dma recvS) n K) amt_recv))
    (may_zero c _) (expect_recv G c) (fun _ _ => rfl) ht9) $$ [HO HcR HcM Har]
  · isplitr; · iapply (inv_at G κ (recv_mem c)); iexact Hr
    isplitr; · iexact Hl
    isplitl [HO]; · iexact HO
    isplitl [HcR HcM]
    · rw [show tot G * 2048 = (tot G - nc G c) * 2048 + nc G c * 2048 by rw [← Nat.add_mul, Nat.sub_add_cancel hn], ← tallyAt_add]
      iapply (Entails.of_eq (SparseCore.Cfg.cred_add_eq _ _).symm)
      isplitl [HcR] <;> iassumption
    iexact Har
  iintro ⟨HO, Har, Hrp⟩
  ihave Hrp := (Entails.of_eq (all_recv G c)) $$ Hrp
  ihave Hrp := (recv_take G c) $$ Hrp
  icases Hrp with ⟨Hland, Hsp7⟩
  ihave Hs2 := (rcv_whole G hG c) $$ [Hland Hrest]
  · isplitl [Hland] <;> iassumption
  ihave Hs1 := (stg_whole G hG c) $$ [Hsp Hsp7 Hst]
  · isplitl [Hsp]; · iexact Hsp
    isplitl [Hsp7] <;> iassumption
  iapply (skip_loop c ht10)
  iapply (Scf.wp_for_bind frame (wpE (defs₀ (F := F)) 𝒱₀ c none) Set.univ _ _ _ _ ⟨⟩ _ (fun k _ => I11 G c k)
    (fun t a => t11_step G hG c t a)) $$ [Hids Hs4 Hs2 Ho]
  · unfold I11
    isplitl [Hids]; · iexact Hids
    isplitl [Hs4]; · iexact Hs4
    isplitl [Hs2]; · iexact Hs2
    iexists o
    isplitr
    · ipureintro
      intro x hx
      exact absurd hx (by omega)
    iexact Ho
  iintro %_ HI
  rw [show Scf.trips k0_t11_loop.lb k0_t11_loop.ub k0_t11_loop.st = 1024 from t11_trips]
  unfold I11
  icases HI with ⟨Hids, Hs4, ⟨%g2, -, Hs2⟩, ⟨%o', %ho', Ho⟩⟩
  have e : o' = outF G c := funext fun x => ho' x (by have : (x 0).val < 8192 := (x 0).isLt; omega)
  subst e
  rw [Prog.pure_eq_ret, wp_ret]
  imod (close G (κ (barCell c)) (barCell c)) $$ [Hab] with Hb0
  · isplitr; · iapply (inv_at G κ (bar_mem c)); iexact Hr
    iexact Hab
  imod (close G (κ (gatCell c)) (gatCell c)) $$ [Hag] with Hg0
  · isplitr; · iapply (inv_at G κ (gat_mem c)); iexact Hr
    iexact Hag
  imod (close G (κ (sendCell c)) (sendCell c)) $$ [Has] with Hsd0
  · isplitr; · iapply (inv_at G κ (send_mem c)); iexact Hr
    iexact Has
  imod (close G (κ (recvCell c)) (recvCell c)) $$ [Har] with Hv0
  · isplitr; · iapply (inv_at G κ (recv_mem c)); iexact Hr
    iexact Har
  imodintro
  iapply Hk
  unfold bodyPost sems0 scratches
  isplitl [Hb0]; · iexact Hb0
  isplitl [Hg0 Hsd0 Hv0]
  · isplitl [Hg0]; · iexact Hg0
    isplitl [Hsd0] <;> iassumption
  isplitl [Hs0 Hs1 Hs2 Hs3 Hs4]
  · isplitl [Hs0]; · iexact Hs0
    isplitl [Hs1]; · iexact Hs1
    isplitl [Hs2]; · iexists g2; iexact Hs2
    isplitl [Hs3]; · iexists _; iexact Hs3
    iexists _; iexact Hs4
  isplitl [Hids]; · iexact Hids
  isplitl [Ho]; · iexact Ho
  iexact HO

end Cert.KernelIdeal.Lookup

end
-- ==== Proof.KI.Region.lean ====
/-
  The contents of the launch and the data of the one pipelined region.
-/
module

public import proofs.«01_k».proof.Proof.KI.Body
public import Idealize.ShloMosaic.Lib.Pipeline.RegionTalk
public import Idealize.ShloMosaic.Lib.Pipeline.ValueKit
public import Idealize.ShloMosaic.Lib.Tactic
public import proofs.«01_k».proof.Proof.Gen.KernelIdeal.Launch

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ)

/-! ## The contents the run is about, off the memory it starts from -/

/-- Device `c`'s buffers when the kernel is entered: after the reshape of its block of the table. -/
def V₁ (c : Dev nD) : Valuation τ sig (Elt F) := StableHlo.after hostOps0 (fun b => m (c, b))

/-- The words and the table block of each device. -/
def dataOf : Data F where
  ids c t := (m ((c : Thread nD τ).loc main_arg0) : S1024.Idx → BitVec 32) (Cert.Lookup.ix1 ⟨t % 1024, Nat.mod_lt _ (by decide)⟩)
  tab c := V₁ m c (Proc.devRef .tc main_v1)

/-- Device `c`'s result, through the shape of the buffer that the call writes. -/
def outA (c : Dev nD) : (main_v2 : Ref sig .tc).ty.Contents (Elt F) := fun x => outv (dataOf m) c (x 0).val (x 1).val

/-- Device `c`'s buffers when the kernel returns. -/
def V₂ (c : Dev nD) : Valuation τ sig (Elt F) := Function.update (V₁ m c) (Proc.devRef .tc main_v2) (outA m c)

theorem V₁_of_ne (c : Dev nD) (b : Ref sig .tc) (h : b ≠ main_v1) : V₁ m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

theorem ids_wds (c : Dev nD) : (wds ((dataOf m).ids c) : S1024.Idx → BitVec 32) = V₁ m c (Proc.devRef .tc main_arg0) := by
  rw [V₁_of_ne m c main_arg0 (by decide)]
  funext x
  unfold wds dataOf
  have h : (x 0).val < 1024 := (x 0).isLt
  exact congrArg (m ((c : Thread nD τ).loc main_arg0) : S1024.Idx → BitVec 32) (Cert.Lookup.ix1_eq x ⟨(x 0).val % 1024, Nat.mod_lt _ (by decide)⟩ (Nat.mod_eq_of_lt h).symm).symm

/-! ## The proof data -/

def Xk (c : Dev nD) : sProp 𝕄 :=
  iprop((∃ κ, opened (dataOf m) κ c) ∗ creds (dataOf m) c ∗ levAts L lv ∗ tabPt (dataOf m) c fullShare)

def Yk (c : Dev nD) : sProp 𝕄 := semVal (barCell c) 0

def dat0 (c : Dev nD) : Dat τ (Elt F) Unit ℕ UU ℕ cfg0 c where
  A w := V₁ m c (Proc.devRef .tc (Pipeline.arrRef spec0 w))
  after w _ := match w with
    | ⟨0, _⟩ => (wds ((dataOf m).ids c) : S1024.Idx → BitVec 32)
    | ⟨1, _⟩ => outF (dataOf m) c
  Φ t := if t.val = 0 then iprop(Xk m c ∗ scratches c ∗ ∃ r, prngReg c r) else iprop(Yk c ∗ sems0 c ∗ scratches c ∗ ∃ r, prngReg c r)
  q _ := fullShare
  owed t := if t.val = 0 then O₀ (dataOf m) c else 0

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat0 m

theorem owed_zero (c : Dev nD) : (pdats m 0 c).owed 0 = O₀ (dataOf m) c := by
  show (if ((0 : Fin (cfg0.N + 1)).val = 0) then O₀ (dataOf m) c else 0) = O₀ (dataOf m) c; exact if_pos rfl
theorem owed_first (c : Dev nD) : (dat0 m c).owed (t0_0 : Fin cfg0.N).castSucc = O₀ (dataOf m) c := by
  show (if ((t0_0 : Fin cfg0.N).castSucc : Fin (cfg0.N + 1)).val = 0 then O₀ (dataOf m) c else 0) = O₀ (dataOf m) c; exact if_pos rfl
theorem owed_last (c : Dev nD) : (pdats m 0 c).owed (Fin.last _) = 0 := by
  show (if (Fin.last cfg0.N).val = 0 then O₀ (dataOf m) c else 0) = 0
  rw [Fin.val_last, if_neg (by rw [show cfg0.N = 1 from N_0]; decide)]

theorem share_eq (c : Dev nD) (w : Fin cfg0.W) : (dat0 m c).share w = fullShare := by
  unfold Dat.share; split <;> rfl

theorem fetch_0 (t : Fin cfg0.N) : (cfg0.win (0 : Fin 2)).fetch t = true := by rw [fin_N0 t]; rfl

/-- What the fetch of the ids brings: the words. -/
theorem ids_fetched (c : Dev nD) : ((cfg0.win 0).blk (t0_0 : Fin cfg0.N)).view.read (Elt F) (V₁ m c (Proc.devRef .tc main_arg0))
    = (wds ((dataOf m).ids c) : S1024.Idx → BitVec 32) := by
  rw [ids_wds]
  funext j
  show V₁ m c (Proc.devRef .tc main_arg0) ((win0_0.rect t0_0).emb j) = V₁ m c (Proc.devRef .tc main_arg0) j
  exact congrArg (V₁ m c (Proc.devRef .tc main_arg0)) (funext fun a => Fin.ext (win0_0.rect_emb_val_of_index_zero t0_0 a rfl j))

/-- What the result array ends at. -/
theorem out_last (c : Dev nD) : (dat0 m c).arrAt 1 cfg0.N = outA m c := by
  refine (dat0 m c).arrAt_eq_of_after_last 1 t0_0 (by decide +kernel) _ fun j => ?_
  blk_simp
  rfl

end Cert.KernelIdeal.Lookup

end
-- ==== Proof.KI.Enter.lean ====
/-
  The region against the body: its segment, entered from what a device keeps from the launch.
-/
module

public import proofs.«01_k».proof.Proof.KI.Region

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ)

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound
  rw [h0, hr]
  iintro HO
  iexists W
  isplitr
  · ipureintro; exact fun _ _ => Or.inl trivial
  · iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W
  iexact HO

theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_ids (c : Dev nD) (d) : (dat0 m c).before (0 : Fin 2) t0_0 d = (wds ((dataOf m).ids c) : S1024.Idx → BitVec 32) := by
  unfold Dat.before
  rw [if_pos (fetch_0 (t0_0 : Fin cfg0.N))]
  exact ids_fetched m c

theorem after_ids (c : Dev nD) : (dat0 m c).after (0 : Fin 2) t0_0 = (wds ((dataOf m).ids c) : S1024.Idx → BitVec 32) := rfl
theorem after_out (c : Dev nD) : (dat0 m c).after (1 : Fin 2) t0_0 = outF (dataOf m) c := rfl

/-- The body against the region's data. -/
theorem body_obligation (hG : Good (dataOf m)) (c : Dev nD) : BodyObligation (dat0 m c) (defs₀ (F := F)) 𝒱₀ () Set.univ := fun t => by
  obtain rfl := fin_N0 t
  rw [bigSep_W0, bigSep_W0]
  sl_whnfR [defs₀, Defs.onTc]
  simp only [show stage0_0 0 = Memref.whole cc0_stg0_0 from rfl, show stage0_1 0 = Memref.whole cc0_stg1_0 from rfl, owns_at]
  rw [after_ids, after_out]
  rw [show (dat0 m c).Φ (t0_0 : Fin cfg0.N).castSucc = iprop(Xk m c ∗ scratches c ∗ ∃ r, prngReg c r) from rfl,
    show (dat0 m c).Φ (t0_0 : Fin cfg0.N).succ = iprop(Yk c ∗ sems0 c ∗ scratches c ∗ ∃ r, prngReg c r) from rfl]
  unfold Xk Yk
  iintro ⟨⟨⟨⟨%κ, Hop⟩, Hcr, Hl, Ht⟩, Hs, Hp⟩, HO, ⟨%d0, %f0, %h0, H0⟩, ⟨%d1, %f1, -, H1⟩⟩
  have h0' := h0.trans (before_ids m c d0)
  subst h0'
  ihave HO := (owesAt_elim (dat0 m c) _ (O₀ (dataOf m) c) (owed_first m c)) $$ HO
  icases HO with ⟨%W, HO⟩
  iapply (body_run (dataOf m) hG κ c W _)
  isplitr [Hp]
  · unfold bodyPre
    isplitl [Hop]; · iexact Hop
    isplitl [Hcr]; · iexact Hcr
    isplitl [Hl]; · iexact Hl
    isplitl [Hs]; · iexact Hs
    isplitl [H0]; · iexact H0
    isplitl [Ht]; · iexact Ht
    isplitl [H1]; · iexists f1; iexact H1
    iexact HO
  unfold bodyPost
  iintro ⟨Hb, Hss, Hs, H0, H1, ⟨%W', HO⟩⟩
  isplitl [Hb Hss Hs Hp]
  · isplitl [Hb]; · iexact Hb
    isplitl [Hss]; · iexact Hss
    isplitl [Hs]; · iexact Hs
    iexact Hp
  isplitl [HO]; · iapply (owesAt_intro (dat0 m c) (t0_0 : Fin cfg0.N).succ 0 (owed_last m c) W' rfl); iexact HO
  isplitl [H0]
  · iexists _; isplitr; · (ipureintro; rfl)
    iexact H0
  iexists _; isplitr; · (ipureintro; rfl)
  iexact H1

/-! ## The region as a segment -/

/-- The buffers that the region leaves alone. -/
def others : Finset (DevRef τ sig) := {Proc.devRef .tc main_arg1, Proc.devRef .tc main_v3}

theorem ownSems_eq (c : Dev nD) : (Pipeline.ownSems0 sc3 c : sProp 𝕄) = sems0 c :=
  bigSep_univ_eq_bigSepL [(0 : Fin 3), (1 : Fin 3), (2 : Fin 3)] (by decide) (by decide) (fun k : Fin 3 => (semVal ((c : Thread nD τ), sc3 k) 0 : sProp 𝕄))

theorem scopedRest_eq (c : Dev nD) :
    (Pipeline.scopedRest (Ix := Unit) (Name := ℕ) (U := UU) (Lvl := ℕ) (Val := Elt F) (Pipeline.pin (pcfgs (F := F)) adm 0).spec c : sProp 𝕄) = scratches c :=
  scopedRest0_eq c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device keeps for the region from the launch. -/
def Tk (c : Dev nD) : sProp 𝕄 :=
  iprop((∃ κ, records (dataOf m) κ ∗ atPos ER (barCell c) 0 ∅ 0 ∗ openTok ER (gatCell c) ∗ openTok ER (sendCell c) ∗ openTok ER (recvCell c) ∗ toks (dataOf m) c)
    ∗ creds (dataOf m) c ∗ tabPt (dataOf m) c fullShare)

theorem hopen (c : Dev nD) : iprop(Tk m c ∗ Pipeline.ownSems0 sc3 c ∗ levAts L lv) ⊢ (|={Set.univ}=> Xk m c : sProp 𝕄) := by
  rw [ownSems_eq]
  unfold Tk Xk sems0
  iintro ⟨⟨⟨%κ, #Hr, Hab, Hog, Hos, Hor, Ht⟩, Hc, Htab⟩, ⟨Hg, Hs, Hv⟩, Hl⟩
  ihave #HIg := (inv_at (dataOf m) κ (gat_mem c)) $$ Hr
  ihave #HIs := (inv_at (dataOf m) κ (send_mem c)) $$ Hr
  ihave #HIr := (inv_at (dataOf m) κ (recv_mem c)) $$ Hr
  imod (Rounds.cell_open ER (rd (dataOf m)) (g := gatCell c) (Set.mem_univ (κ (gatCell c)))) $$ [Hog Hg] with ⟨Hag, #Hrg⟩
  · isplitr; · iexact HIg
    isplitl [Hog] <;> iassumption
  imod (Rounds.cell_open ER (rd (dataOf m)) (g := sendCell c) (Set.mem_univ (κ (sendCell c)))) $$ [Hos Hs] with ⟨Has, #Hrs⟩
  · isplitr; · iexact HIs
    isplitl [Hos] <;> iassumption
  imod (Rounds.cell_open ER (rd (dataOf m)) (g := recvCell c) (Set.mem_univ (κ (recvCell c)))) $$ [Hor Hv] with ⟨Har, #Hrr⟩
  · isplitr; · iexact HIr
    isplitl [Hor] <;> iassumption
  imodintro
  isplitl [Hab Hag Has Har Ht]
  · iexists κ
    unfold opened
    isplitr; · iexact Hr
    isplitr; · iexact Hrg
    isplitr; · iexact Hrs
    isplitr; · iexact Hrr
    isplitl [Hab]; · iexact Hab
    isplitl [Hag]; · iexact Hag
    isplitl [Has]; · iexact Has
    isplitl [Har]; · iexact Har
    iexact Ht
  isplitl [Hc]; · iexact Hc
  isplitl [Hl]; · iexact Hl
  iexact Htab

theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ (dataOf m) c else 0 := rfl
  rw [e] at h
  split at h
  · rcases O₀_pos (dataOf m) h with ⟨j, rfl⟩ | ⟨j, rfl⟩
    · exact ⟨by rw [L_tc]; exact Finset.mem_singleton_self _, by dsimp only [lv]; rw [if_neg (by decide), if_pos rfl]; decide⟩
    · exact ⟨by rw [L_tc]; exact Finset.mem_singleton_self _, by dsimp only [lv]; rw [if_pos rfl]; decide⟩
  · exact absurd h (Nat.lt_irrefl 0)

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratches c ∗ ∃ r, prngReg c r) from rfl, scopedRest_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 sc3 c ∗ Yk c) := by
  rw [show (pdats m 0 c).Φ (Fin.last _) = iprop(Yk c ∗ sems0 c ∗ scratches c ∗ ∃ r, prngReg c r) from rfl, ownSems_eq, scopedRest_eq]
  iintro ⟨Hb, Hss, Hs, Hp⟩
  isplitl [Hs]; · iexact Hs
  isplitl [Hp]; · iexact Hp
  isplitr
  · unfold StableHlo.held
    rw [BI.bigSep_empty]
    iempintro
  isplitl [Hss] <;> iassumption

theorem others_same (c : Dev nD) (b : DevRef τ sig) (hb : b ∈ others \ ∅) : V₂ m c b = V₁ m c b := by
  unfold V₂
  refine Function.update_of_ne ?_ ..
  rintro rfl
  revert hb
  decide

theorem arr_first (c : Dev nD) (w : Fin (Pipeline.pin (pcfgs (F := F)) adm 0).W) :
    (pdats m 0 c).arrAt w 0 = V₁ m c (Proc.devRef .tc (Pipeline.arrRef (Pipeline.pin (pcfgs (F := F)) adm 0).spec w)) := rfl

theorem arr_last (c : Dev nD) (w : Fin (Pipeline.pin (pcfgs (F := F)) adm 0).W) :
    (pdats m 0 c).arrAt w (Pipeline.pin (pcfgs (F := F)) adm 0).N = V₂ m c (Proc.devRef .tc (Pipeline.arrRef (Pipeline.pin (pcfgs (F := F)) adm 0).spec w)) := by
  match w with
  | ⟨0, _⟩ =>
    refine ((dat0 m c).arrAt_in (0 : Fin 2) rfl _).trans ?_
    show V₁ m c (Proc.devRef .tc main_arg0) = V₂ m c (Proc.devRef .tc main_arg0)
    unfold V₂
    exact (Function.update_of_ne (StableHlo.devRef_ne_of_ne (by decide : main_arg0 ≠ main_v2)) (outA m c) (V₁ m c)).symm
  | ⟨1, _⟩ =>
    refine (out_last m c).trans ?_
    exact (Function.update_self (β := fun b : DevRef τ sig => b.ty.Contents (Elt F)) (Proc.devRef .tc main_v2) (outA m c) (V₁ m c)).symm

set_option backward.isDefEq.respectTransparency.types false in
def reg (hG : Good (dataOf m)) : Pipeline.RegionSeg (pcfgs (F := F)) adm (pdats m) () defs₀ 𝒱₀ L lv 0 :=
  Pipeline.RegionSeg.ofTalk (pcfgs (F := F)) adm (pdats m) () defs₀ 𝒱₀ L lv 0 sc3 (by decide : Pipeline.OwnSemFacts spec0 sc3)
    ∅ others (Finset.empty_subset _) kitP rfl (fun c => (body_obligation m hG c).loose)
    (fun _ => 0) (O₀ (dataOf m)) (fun c => (owed_zero m c).trans (zero_add _).symm) (owed_last m) (fun _ => rfl) (fun c w => share_eq m c w)
    (V₁ m) (V₂ m) (others_same m)
    (Tk m) Yk (Xk m) Yk (hopen m) (hin m) (hout m)
    (fun c => by iintro H; imodintro; iexact H)
    (fun _ => 0)
    ⟨fun _ _ _ => by rw [L_tc]; exact Finset.mem_singleton_self _, fun c w s => le_of_eq (by
      match w, s with
      | ⟨0, _⟩, s => dsimp only [lv]; rw [if_neg (by decide), if_neg (by decide)]
      | ⟨1, _⟩, s => dsimp only [lv]; rw [if_neg (by decide), if_neg (by decide)]), fun c t g i h => cutD m c t g i h⟩
    (fun _ => iprop(emp))
    (arr_first m) (arr_last m)

end Cert.KernelIdeal.Lookup

end
-- ==== Proof.KI.Deal.lean ====
/-
  The launch deals every token and every credit.
-/
module

public import proofs.«01_k».proof.Proof.KI.Enter

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

variable (G : Data F)

/-! ## The tokens of the launch -/

/-- The token with the numbers `(c, k, i, j)`: `c` is the device that pays with it, but for the last kind, which its own
    gather pays. -/
def tokAt (x : Dev nD × Fin 4 × Fin 8 × Fin 1024) : GSem nD τ sig × ℕ × DD :=
  match x with
  | (c, 0, i, j) => (barCell (pr c i), 0, ⟨bk i, j.val⟩)
  | (c, 1, i, j) => (recvCell (pr c i), 0, ⟨c, j.val⟩)
  | (c, 2, i, j) => (sendCell c, 0, ⟨i, j.val⟩)
  | (c, 3, i, j) => (gatCell c, 0, ⟨i, j.val⟩)

def kindSem : Fin 4 → SemLoc sig := ![.reg barS, .dma recvS, .dma sendS, .dma gatS]
theorem kindSem_inj : Function.Injective kindSem := by
  unfold kindSem
  decide
theorem tokAt_sem (c : Dev nD) (k : Fin 4) (i : Fin 8) (j : Fin 1024) : (tokAt (c, k, i, j)).1.2 = kindSem k := by
  match k with
  | 0 => rfl
  | 1 => rfl
  | 2 => rfl
  | 3 => rfl
theorem tokAt_num (c : Dev nD) (k : Fin 4) (i : Fin 8) (j : Fin 1024) : (tokAt (c, k, i, j)).2.2.2 = j.val := by
  match k with
  | 0 => rfl
  | 1 => rfl
  | 2 => rfl
  | 3 => rfl
/-- The device of the cell, and the first number of the duty. -/
theorem tokAt_dev (c : Dev nD) (k : Fin 4) (i : Fin 8) (j : Fin 1024) :
    (tokAt (c, k, i, j)).1.1.1 = if k = 0 ∨ k = 1 then pr c i else c := by
  match k with
  | 0 => rfl
  | 1 => rfl
  | 2 => rfl
  | 3 => rfl
theorem tokAt_duty (c : Dev nD) (k : Fin 4) (i : Fin 8) (j : Fin 1024) :
    (tokAt (c, k, i, j)).2.2.1 = if k = 0 then bk i else if k = 1 then (c : Fin 8) else i := by
  match k with
  | 0 => rfl
  | 1 => rfl
  | 2 => rfl
  | 3 => rfl

theorem tokAt_inj : Function.Injective tokAt := by
  rintro ⟨c, k, i, j⟩ ⟨c', k', i', j'⟩ h
  have hk : k = k' := kindSem_inj (by rw [← tokAt_sem c k i j, ← tokAt_sem c' k' i' j', h])
  subst hk
  have hj : j = j' := Fin.ext (by rw [← tokAt_num c k i j, ← tokAt_num c' k i' j', h])
  subst hj
  have h1 := tokAt_dev c k i j
  have h2 := tokAt_duty c k i j
  rw [h, tokAt_dev] at h1
  rw [h, tokAt_duty] at h2
  match k, h1, h2 with
  | 0, h1, h2 =>
    have hi : i' = i := by
      have e : bk i' = bk i := h2
      rw [← bk_bk i', e, bk_bk]
    subst hi
    have e : pr c' i' = pr c i' := h1
    have hc : c' = c := by rw [← pr_bk c' i', e, pr_bk]
    subst hc
    rfl
  | 1, h1, h2 =>
    have hc : c' = c := h2
    subst hc
    have hi : i' = i := pr_inj c' i' i h1
    subst hi
    rfl
  | 2, h1, h2 =>
    have hc : c' = c := h1
    have hi : i' = i := h2
    subst hc hi
    rfl
  | 3, h1, h2 =>
    have hc : c' = c := h1
    have hi : i' = i := h2
    subst hc hi
    rfl

def launchToks : Finset (GSem nD τ sig × ℕ × DD) := Finset.univ.map ⟨tokAt, tokAt_inj⟩

theorem fin_to_range (Φ : ℕ → sProp 𝕄) {n : ℕ} (hn : n ≤ 1024) :
    (bigSep Finset.univ fun j : Fin 1024 => Φ j.val) ⊢ bigSep (Finset.range n) Φ := by
  have e : (bigSep (Finset.univ.map Fin.valEmbedding) Φ : sProp 𝕄) = bigSep Finset.univ fun j : Fin 1024 => Φ j.val :=
    bigSep_map (s := (Finset.univ : Finset (Fin 1024))) Fin.valEmbedding (Φ := Φ)
  rw [← e]
  refine bigSep_subset fun j hj => Finset.mem_map.mpr ?_
  have hj' := Finset.mem_range.mp hj
  exact ⟨⟨j, by omega⟩, Finset.mem_univ _, rfl⟩

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem nOwn_le (c : Dev nD) : nOwn G c ≤ 1024 := cnt_le _ _ _
theorem nc_total (c : Dev nD) : nc G c ≤ 1024 := by
  have h : nOwn G c ≤ 1024 := nOwn_le G c
  unfold nc nch
  unfold nOwn at h
  omega

theorem deal_one (c : Dev nD) :
    (bigSep Finset.univ fun k : Fin 4 => bigSep Finset.univ fun i : Fin 8 => bigSep Finset.univ fun j : Fin 1024 =>
      (dutyTok ER (tokAt (c, k, i, j)).1 (tokAt (c, k, i, j)).2.1 (tokAt (c, k, i, j)).2.2 : sProp 𝕄)) ⊢ toks G c := by
  rw [bigSep_fin4]
  have h0 : (bigSep Finset.univ fun i : Fin 8 => bigSep Finset.univ fun j : Fin 1024 => (dutyTok ER (barCell (pr c i)) 0 ⟨bk i, j.val⟩ : sProp 𝕄))
      ⊢ bigSep peers fun i => dutyTok ER (barCell (pr c i)) 0 ⟨bk i, 0⟩ :=
    (bigSep_subset (Finset.subset_univ peers)).trans (bigSep_mono fun i _ => bigSep_elim (Finset.mem_univ (0 : Fin 1024)))
  have h1 : (bigSep Finset.univ fun i : Fin 8 => bigSep Finset.univ fun j : Fin 1024 => (dutyTok ER (recvCell (pr c i)) 0 ⟨c, j.val⟩ : sProp 𝕄))
      ⊢ iprop((bigSep (Finset.range (nc G c)) fun j => dutyTok ER (recvCell c) 0 ⟨c, j⟩)
        ∗ bigSep peers fun i => bigSep (Finset.range (nc G c)) fun j => dutyTok ER (recvCell (pr c i)) 0 ⟨c, j⟩) := by
    refine (bigSep_mono fun i _ => fin_to_range (fun j => dutyTok ER (recvCell (pr c i)) 0 ⟨c, j⟩) (nc_total G c)).trans ?_
    rw [bigSep_erase (Finset.mem_univ (7 : Fin 8))]
    show iprop((bigSep (Finset.range (nc G c)) fun j => dutyTok ER (recvCell (pr c 7)) 0 ⟨c, j⟩) ∗ _) ⊢ _
    rw [pr_seven]
  have h2 : (bigSep Finset.univ fun i : Fin 8 => bigSep Finset.univ fun j : Fin 1024 => (dutyTok ER (sendCell c) 0 ⟨i, j.val⟩ : sProp 𝕄))
      ⊢ bigSep peers fun i => bigSep (Finset.range (nc G c)) fun j => dutyTok ER (sendCell c) 0 ⟨i, j⟩ :=
    (bigSep_subset (Finset.subset_univ peers)).trans
      (bigSep_mono fun i _ => fin_to_range (fun j => dutyTok ER (sendCell c) 0 ⟨i, j⟩) (nc_total G c))
  have h3 : (bigSep Finset.univ fun i : Fin 8 => bigSep Finset.univ fun j : Fin 1024 => (dutyTok ER (gatCell c) 0 ⟨i, j.val⟩ : sProp 𝕄))
      ⊢ bigSep (Finset.range (nOwn G c)) fun k => dutyTok ER (gatCell c) 0 ⟨0, k⟩ :=
    (bigSep_elim (Finset.mem_univ (0 : Fin 8))).trans (fin_to_range (fun j => dutyTok ER (gatCell c) 0 ⟨0, j⟩) (nOwn_le G c))
  show iprop((bigSep Finset.univ fun i : Fin 8 => bigSep Finset.univ fun j : Fin 1024 => (dutyTok ER (barCell (pr c i)) 0 ⟨bk i, j.val⟩ : sProp 𝕄))
    ∗ (bigSep Finset.univ fun i : Fin 8 => bigSep Finset.univ fun j : Fin 1024 => (dutyTok ER (recvCell (pr c i)) 0 ⟨c, j.val⟩ : sProp 𝕄))
    ∗ (bigSep Finset.univ fun i : Fin 8 => bigSep Finset.univ fun j : Fin 1024 => (dutyTok ER (sendCell c) 0 ⟨i, j.val⟩ : sProp 𝕄))
    ∗ (bigSep Finset.univ fun i : Fin 8 => bigSep Finset.univ fun j : Fin 1024 => (dutyTok ER (gatCell c) 0 ⟨i, j.val⟩ : sProp 𝕄))) ⊢ _
  unfold toks sendToks
  iintro ⟨H0, H1, H2, H3⟩
  ihave H0 := h0 $$ H0
  ihave H1 := h1 $$ H1
  ihave H2 := h2 $$ H2
  ihave H3 := h3 $$ H3
  icases H1 with ⟨Ha, Hb⟩
  isplitl [H0]; · iexact H0
  isplitl [H2 Hb]
  · isplitl [H2] <;> iassumption
  isplitl [Ha] <;> iassumption

theorem deal : (bigSep launchToks fun x => (dutyTok ER x.1 x.2.1 x.2.2 : sProp 𝕄)) ⊢ bigSep Finset.univ fun c : Dev nD => toks G c := by
  unfold launchToks
  rw [bigSep_map, bigSep_univ_prod]
  refine bigSep_mono fun c _ => ?_
  rw [bigSep_univ_prod]
  refine BIBase.Entails.trans (Entails.of_eq ?_) (deal_one G c)
  exact bigSep_congr fun k _ => by
    rw [bigSep_univ_prod]
    rfl

/-! ## The credit of the launch -/

theorem hits (d c : Dev nD) (n : ℕ) : (∑ i ∈ peers, if pr d i = c then n else 0) = if d = c then 0 else n := by
  by_cases h : d = c
  · rw [if_pos h]
    subst h
    refine Finset.sum_eq_zero fun i hi => if_neg fun e => ?_
    exact (mem_peers.mp hi) (pr_inj d i 7 (e.trans (pr_seven d).symm))
  · rw [if_neg h]
    obtain ⟨i, hi⟩ := pr_surj d c
    have hm : i ∈ peers := mem_peers.mpr fun e => h (by rw [← hi, e, pr_seven])
    rw [Finset.sum_eq_single i (fun j _ hj => if_neg fun e => hj (pr_inj d j i (e.trans hi.symm))) (fun hn => absurd hm hn), if_pos hi]

theorem sum_at {T : Type} (s : Finset T) (f : T → CellTallies nD τ sig Unit) (g : GSem nD τ sig) (u : Unit) :
    (∑ i ∈ s, f i) g u = ∑ i ∈ s, f i g u := by
  rw [Finset.sum_apply, Finsupp.finset_sum_apply]

theorem owed_bar (d c : Dev nD) : O₀ G d (barCell c) () = if d = c then 0 else 1 := by
  unfold O₀ owedFrom
  rw [Pi.add_apply, Finsupp.add_apply, sum_at, sum_at, Finset.sum_eq_zero, Nat.zero_add, ← hits d c 1]
  · refine Finset.sum_congr rfl fun i _ => ?_
    unfold owedBar
    rw [tallyAt_apply]
    by_cases h : pr d i = c
    · rw [if_pos h, if_pos ⟨by rw [h], rfl⟩]
    · rw [if_neg h, if_neg (fun ⟨e, _⟩ => h (congrArg (fun g : GSem nD τ sig => g.1.1) e).symm)]
  · intro i _
    unfold owedRecv
    rw [tallyAt_ne_cell (fun h => recv_ne_bar (congrArg Prod.snd h).symm)]
    rfl

theorem owed_recv (d c : Dev nD) : O₀ G d (recvCell c) () = if d = c then 0 else nc G d * 2048 := by
  unfold O₀ owedFrom
  rw [Pi.add_apply, Finsupp.add_apply, sum_at, sum_at, ← hits d c (nc G d * 2048)]
  have e : (∑ i ∈ peers, owedBar d i (recvCell c) ()) = 0 := Finset.sum_eq_zero fun i _ => by
    unfold owedBar
    rw [tallyAt_ne_cell (fun h => recv_ne_bar (congrArg Prod.snd h))]
    rfl
  rw [e, Nat.add_zero]
  refine Finset.sum_congr rfl fun i _ => ?_
  unfold owedRecv
  rw [tallyAt_apply, Nat.sub_zero]
  by_cases h : pr d i = c
  · rw [if_pos h, if_pos ⟨by rw [h], rfl⟩]
  · rw [if_neg h, if_neg (fun ⟨e, _⟩ => h (congrArg (fun g : GSem nD τ sig => g.1.1) e).symm)]

theorem sum_others (c : Dev nD) (f : Dev nD → ℕ) : (∑ d : Dev nD, if d = c then 0 else f d) = (∑ d : Dev nD, f d) - f c := by
  rw [← Finset.add_sum_erase Finset.univ f (Finset.mem_univ c), Nat.add_sub_cancel_left,
    ← Finset.sum_erase (f := fun d => if d = c then 0 else f d) Finset.univ (a := c) (if_pos rfl)]
  exact Finset.sum_congr rfl fun d hd => if_neg (Finset.ne_of_mem_erase hd)

theorem launch_bar (c : Dev nD) :
    tallyOn (barCell c) (launchCredit (Pipeline.owing (O₀ G)) 0 (barCell c)) = (tallyAt (barCell c) () 7 : CellTallies nD τ sig Unit) := by
  unfold tallyAt
  refine congrArg _ (Finsupp.ext fun u => ?_)
  cases u
  rw [Pipeline.launchCredit_owing, Finsupp.single_eq_same, Finset.sum_congr rfl fun d _ => owed_bar G d c, sum_others c fun _ => 1]
  rfl

theorem launch_recv (c : Dev nD) :
    tallyOn (recvCell c) (launchCredit (Pipeline.owing (O₀ G)) 0 (recvCell c))
      = (tallyAt (recvCell c) () ((tot G - nc G c) * 2048) : CellTallies nD τ sig Unit) := by
  unfold tallyAt
  refine congrArg _ (Finsupp.ext fun u => ?_)
  cases u
  rw [Pipeline.launchCredit_owing, Finsupp.single_eq_same, Finset.sum_congr rfl fun d _ => owed_recv G d c, sum_others c fun d => nc G d * 2048,
    Nat.sub_mul, tot, Finset.sum_mul]

theorem creds_intro (c : Dev nD) : (Pipeline.launchCred (O₀ G) c : sProp 𝕄) ⊢ creds G c := by
  unfold Pipeline.launchCred creds
  rw [bigSep_univ_at _ (SemLoc.reg barS), launch_bar]
  refine sep_mono_right ?_
  rw [← launch_recv]
  exact bigSep_elim (Finset.mem_erase.mpr ⟨recv_ne_bar, Finset.mem_univ _⟩)

end Cert.KernelIdeal.Lookup

end
-- ==== Proof.KI.Run.lean ====
/-
  The run of the whole program on the eight devices.
-/
module

public import proofs.«01_k».proof.Proof.KI.Deal

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

open Idealize.ShloMosaic.Pipeline (Dat Cfg BodyObligation cellOf)

variable (m : (ℓ : Loc nD τ sig) → Buf (Elt F) ℓ) (ρ : Dev nD → PrngReg)

/-! ## The buffers between the segments -/

/-- A buffer of device `c` held whole. -/
abbrev pt (c : Dev nD) (b : Ref sig .tc) (f : b.ty.Contents (Elt F)) : sProp 𝕄 := ((c : Thread nD τ).loc b) ↦{fullShare} f

def bufs : Finset (DevRef τ sig) := (StableHlo.tcRefs τ sig).filter fun b => ¬ b.isScoped
/-- The buffers but for the reshaped table. -/
def bufs4 : Finset (DevRef τ sig) :=
  {Proc.devRef .tc main_arg0, Proc.devRef .tc main_v2, Proc.devRef .tc main_arg1, Proc.devRef .tc main_v3}

def V₀ (c : Dev nD) : Valuation τ sig (Elt F) := fun b => m (c, b)

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(pt c main_v1 (W (Proc.devRef .tc main_v1)) ∗ pt c main_arg0 (W (Proc.devRef .tc main_arg0)) ∗ pt c main_v2 (W (Proc.devRef .tc main_v2))
      ∗ pt c main_arg1 (W (Proc.devRef .tc main_arg1)) ∗ pt c main_v3 (W (Proc.devRef .tc main_v3))) := by
  unfold StableHlo.held
  rw [bigSep_eq_bigSepL_of_eq [Proc.devRef .tc main_v1, Proc.devRef .tc main_arg0, Proc.devRef .tc main_v2, Proc.devRef .tc main_arg1, Proc.devRef .tc main_v3]
    (by decide) (by decide)]
  rfl

theorem bufs4_eq (c : Dev nD) (W : Valuation τ sig (Elt F)) : (StableHlo.held (c : Thread nD τ) bufs4 W : sProp 𝕄)
    = iprop(pt c main_arg0 (W (Proc.devRef .tc main_arg0)) ∗ pt c main_v2 (W (Proc.devRef .tc main_v2))
      ∗ pt c main_arg1 (W (Proc.devRef .tc main_arg1)) ∗ pt c main_v3 (W (Proc.devRef .tc main_v3))) := by
  unfold StableHlo.held
  rw [bigSep_eq_bigSepL_of_eq [Proc.devRef .tc main_arg0, Proc.devRef .tc main_v2, Proc.devRef .tc main_arg1, Proc.devRef .tc main_v3]
    (by decide) (by decide)]
  rfl

theorem others_eq (c : Dev nD) (W : Valuation τ sig (Elt F)) : (StableHlo.held (c : Thread nD τ) others W : sProp 𝕄)
    = iprop(pt c main_arg1 (W (Proc.devRef .tc main_arg1)) ∗ pt c main_v3 (W (Proc.devRef .tc main_v3))) := by
  unfold StableHlo.held
  rw [bigSep_eq_bigSepL_of_eq [Proc.devRef .tc main_arg1, Proc.devRef .tc main_v3] (by decide) (by decide)]
  rfl

theorem arrays_eq (c : Dev nD) (W : Valuation τ sig (Elt F)) :
    (StableHlo.held (c.tc : Thread nD τ) (Pipeline.arrRefs (τ := τ) (pcfgs (F := F) 0).spec) W : sProp 𝕄)
    = iprop(pt c main_arg0 (W (Proc.devRef .tc main_arg0)) ∗ pt c main_v2 (W (Proc.devRef .tc main_v2))) := by
  have e : Pipeline.arrRefs (τ := τ) (pcfgs (F := F) 0).spec = ([Proc.devRef .tc main_arg0, Proc.devRef .tc main_v2] : List (DevRef τ sig)).toFinset := by
    show Pipeline.arrRefs (τ := τ) spec0 = _
    decide
  unfold StableHlo.held
  rw [bigSep_eq_bigSepL_of_eq [Proc.devRef .tc main_arg0, Proc.devRef .tc main_v2] e (by decide)]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The segments -/

/-- What rides beside the buffers up to the region. -/
def R (c : Dev nD) : sProp 𝕄 :=
  iprop((∃ κ, records (dataOf m) κ ∗ atPos ER (barCell c) 0 ∅ 0 ∗ openTok ER (gatCell c) ∗ openTok ER (sendCell c) ∗ openTok ER (recvCell c) ∗ toks (dataOf m) c)
    ∗ creds (dataOf m) c ∗ (∃ r, prngReg c r) ∗ ∃ W, owes (c : Thread nD τ) (O₀ (dataOf m) c) W)

/-- And after it. -/
def R' (c : Dev nD) : sProp 𝕄 := iprop(semVal (barCell c) 0 ∗ ∃ W, owes (c : Thread nD τ) (0 : CellTallies nD τ sig Unit) W)

theorem ops0_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem ops1_sub : ∀ op ∈ (hostOps1 : List (HloOp τ sig (Elt F))), op.bufs ⊆ bufs4 := fun op h => by
  simp only [List.mem_singleton] at h; subst h
  show ({Proc.devRef .tc main_v2, Proc.devRef .tc main_v3} : Finset (DevRef τ sig)) ⊆ bufs4; decide
theorem ops0_fresh : ∀ op ∈ (hostOps0 : List (HloOp τ sig (Elt F))), op.fresh = ∅ := fun op h => by
  simp only [List.mem_singleton] at h; subst h; rfl
theorem ops1_fresh : ∀ op ∈ (hostOps1 : List (HloOp τ sig (Elt F))), op.fresh = ∅ := fun op h => by
  simp only [List.mem_singleton] at h; subst h; rfl

def seg0 : Pipeline.HostSeg (Ix := Unit) (Name := ℕ) (U := UU) (Lvl := ℕ) (pcfgs (F := F)) defs₀ 𝒱₀ L lv :=
  Pipeline.HostSeg.ofOps _ _ _ _ _ bufs hostOps0 ops0_sub ops0_fresh (V₀ m) (R m)
def seg2 : Pipeline.HostSeg (Ix := Unit) (Name := ℕ) (U := UU) (Lvl := ℕ) (pcfgs (F := F)) defs₀ 𝒱₀ L lv :=
  Pipeline.HostSeg.ofOps _ _ _ _ _ bufs4 hostOps1 ops1_sub ops1_fresh (V₂ m) R'

theorem reg_pre (hG : Good (dataOf m)) (c : Dev nD) : iprop(StableHlo.held (c : Thread nD τ) bufs (V₁ m c) ∗ R m c) ⊢ (reg m hG).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Tk m c ∗ ∃ Wd, owes (c : Thread nD τ) (0 + O₀ (dataOf m) c) Wd)
  rw [arrays_eq, zero_add, bufs_eq, others_eq]
  unfold R Tk
  iintro ⟨⟨Hv1, Ha0, Hv2, Ha1, Hv3⟩, HK, Hc, Hp, HO⟩
  isplitl [Ha0 Hv2]; · isplitl [Ha0] <;> iassumption
  isplitl [Hp]; · iexact Hp
  isplitl [Ha1 Hv3]
  · isplitl [Ha1 Hv3]; · isplitl [Ha1] <;> iassumption
    iempintro
  isplitl [HK Hc Hv1]
  · isplitl [HK]; · iexact HK
    isplitl [Hc]; · iexact Hc
    iexact Hv1
  iexact HO

theorem reg_post (hG : Good (dataOf m)) (c : Dev nD) : (reg m hG).post c ⊢ iprop(StableHlo.held (c : Thread nD τ) bufs4 (V₂ m c) ∗ R' c) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [arrays_eq, bufs4_eq, others_eq]
  unfold Yk R'
  iintro ⟨⟨Ha0, Hv2⟩, -, ⟨⟨Ha1, Hv3⟩, -⟩, Hb, HO⟩
  isplitr [Hb HO]
  · isplitl [Ha0]; · iexact Ha0
    isplitl [Hv2]; · iexact Hv2
    isplitl [Ha1] <;> iassumption
  isplitl [Hb]; · iexact Hb
  iexact HO

def segs (hG : Good (dataOf m)) : List (Pipeline.Seg (pcfgs (F := F)) adm (pdats m) () defs₀ 𝒱₀ L lv) :=
  [.host (seg0 m), .region (reg m hG), .host (seg2 m)]

theorem main_eq (hG : Good (dataOf m)) (c : Dev nD) : main (F := F) c = Pipeline.Seg.run (segs m hG) :=
  main_segs adm (pdats m) () 𝒱₀ L lv (seg0 m) (seg2 m) (reg m hG) rfl rfl c

/-! ## The launch -/

def u₀ : UU :=
  (initOf (Pipeline.cells (Pipeline.pin (pcfgs (F := F)) adm) cellOf_inj) (Pipeline.launchToks (Pipeline.pin (pcfgs (F := F)) adm) cellOf_inj),
    launchOf barCells scCells launchToks)

/-- The protocol's launch element waits on device 0 until every device's counters are in hand. -/
def parked (c : Dev nD) : sProp 𝕄 := if c = 0 then BI.own (ER (launchOf barCells scCells launchToks)) else iprop(emp)
theorem parked_all : bigSep Finset.univ (parked (F := F)) = BI.own (ER (launchOf barCells scCells launchToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What a device takes of the dealt ghost state. -/
def mine (c : Dev nD) : sProp 𝕄 :=
  iprop(atPos ER (barCell c) 0 ∅ 0 ∗ (openTok ER (gatCell c) ∗ openTok ER (sendCell c) ∗ openTok ER (recvCell c)) ∗ toks (dataOf m) c)
/-- And beside it. -/
def bundle (c : Dev nD) : sProp 𝕄 :=
  iprop(StableHlo.held (c : Thread nD τ) bufs (V₀ m c) ∗ creds (dataOf m) c ∗ owes (c : Thread nD τ) (O₀ (dataOf m) c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs4 (StableHlo.after hostOps1 (V₂ m c)) ∗ semVal (barCell c) 0)

theorem T₀_intro (κ : GSem nD τ sig → ℕ) (c : Dev nD) : iprop(records (dataOf m) κ ∗ (mine m c ∗ bundle m c)) ⊢ T₀ m c := by
  unfold bundle T₀ R mine
  iintro ⟨#HR, ⟨Hb, ⟨Hg, Hs, Hv⟩, Ht⟩, Hh, Hc, HO, Hp⟩
  isplitl [Hh]; · iexact Hh
  isplitl [Hb Hg Hs Hv Ht]
  · iexists κ
    isplitr; · iexact HR
    isplitl [Hb]; · iexact Hb
    isplitl [Hg]; · iexact Hg
    isplitl [Hs]; · iexact Hs
    isplitl [Hv] <;> iassumption
  isplitl [Hc]; · iexact Hc
  isplitl [Hp]; · iexact Hp
  iexists ∅; iexact HO

theorem core_split (c : Dev nD) : iprop(unscopedBufs c (fun b => m ((c : Thread nD τ).loc b)) ∗ unscopedSems0 c
      ∗ owes (c : Thread nD τ) (O₀ (dataOf m) c) ∅ ∗ Pipeline.launchCred (O₀ (dataOf m)) c ∗ prngReg c (ρ c) ∗ parked c)
    ⊢ (iprop(bundle m c ∗ (semVal (barCell c) 0 ∗ parked c)) : sProp 𝕄) := by
  rw [show unscopedBufs c (fun b => m ((c : Thread nD τ).loc b)) = StableHlo.held (c : Thread nD τ) bufs (V₀ m c) from unscopedBufs_held c (V₀ m c),
    unscopedSems_eq]
  unfold bundle
  iintro ⟨Hh, Hus, HO, Hcr, Hp, HG⟩
  ihave Hc := (creds_intro (dataOf m) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ (dataOf m) c) ∅ ∗ Pipeline.launchCred (O₀ (dataOf m)) c ∗ prngReg c (ρ c) ∗ parked c)) ∗ levAts L lv)
      ⊢ (|={Set.univ}=> bigSep Finset.univ (T₀ m) : sProp 𝕄) := by
  have hs : (bigSep Finset.univ fun c : Dev nD => iprop(unscopedBufs c (fun b => m ((c : Thread nD τ).loc b)) ∗ unscopedSems0 c
          ∗ owes (c : Thread nD τ) (O₀ (dataOf m) c) ∅ ∗ Pipeline.launchCred (O₀ (dataOf m)) c ∗ prngReg c (ρ c) ∗ parked c))
      ⊢ (iprop((bigSep Finset.univ fun c => bundle m c) ∗ (bigSep Finset.univ fun c : Dev nD => semVal (barCell c) 0) ∗ bigSep Finset.univ fun c => parked c) : sProp 𝕄) :=
    by
    have h1 := bigSep_sep' (Finset.univ : Finset (Dev nD)) (fun c => bundle m c) (fun c => (iprop(semVal (barCell c) 0 ∗ parked c) : sProp 𝕄))
    have h2 := bigSep_sep' (Finset.univ : Finset (Dev nD)) (fun c => (semVal (barCell c) 0 : sProp 𝕄)) (fun c => (parked c : sProp 𝕄))
    rw [← h2, ← h1]
    exact bigSep_mono fun c _ => core_split m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopens : bigSep scCells (fun g => (openTok ER g : sProp 𝕄))
      ⊢ bigSep Finset.univ (fun c : Dev nD => iprop(openTok ER (gatCell c) ∗ openTok ER (sendCell c) ∗ openTok ER (recvCell c))) :=
    Entails.of_eq (by
      unfold scCells
      rw [bigSep_map, bigSep_univ_prod]
      exact bigSep_congr fun c _ => bigSep_univ_eq_bigSepL [(0 : Fin 3), (1 : Fin 3), (2 : Fin 3)] (by decide) (by decide)
        (fun k : Fin 3 => (openTok ER ((c : Thread nD τ), sc3 k) : sProp 𝕄)))
  have hjoin : iprop((bigSep Finset.univ fun c : Dev nD => (atPos ER (barCell c) 0 ∅ 0 : sProp 𝕄))
        ∗ (bigSep Finset.univ fun c : Dev nD => iprop(openTok ER (gatCell c) ∗ openTok ER (sendCell c) ∗ openTok ER (recvCell c)))
        ∗ (bigSep Finset.univ fun c : Dev nD => toks (dataOf m) c) ∗ bigSep Finset.univ fun c => bundle m c)
      ⊢ bigSep Finset.univ fun c : Dev nD => iprop(mine m c ∗ bundle m c) := by
    have h1 := bigSep_sep' (Finset.univ : Finset (Dev nD)) (fun c => mine m c) (fun c => bundle m c)
    have h2 := bigSep_sep' (Finset.univ : Finset (Dev nD)) (fun c => (atPos ER (barCell c) 0 ∅ 0 : sProp 𝕄))
      (fun c => iprop((openTok ER (gatCell c) ∗ openTok ER (sendCell c) ∗ openTok ER (recvCell c)) ∗ toks (dataOf m) c))
    have h3 := bigSep_sep' (Finset.univ : Finset (Dev nD)) (fun c => (iprop(openTok ER (gatCell c) ∗ openTok ER (sendCell c) ∗ openTok ER (recvCell c)) : sProp 𝕄))
      (fun c => toks (dataOf m) c)
    refine BIBase.Entails.trans ?_ (Entails.of_eq h1.symm)
    have h4 : (bigSep Finset.univ fun c : Dev nD => mine m c) = _ := h2
    rw [h4, h3]
    iintro ⟨H1, H2, H3, H4⟩
    isplitr [H4]
    · isplitl [H1]; · iexact H1
      isplitl [H2] <;> iassumption
    · iexact H4
  have hu : bigSep Finset.univ (fun c => parked (F := F) c) ⊢ BI.own (ER (launchOf barCells scCells launchToks)) := Entails.of_eq parked_all
  have hd := deal (dataOf m)
  iintro ⟨H, -⟩
  ihave H := hs $$ H
  icases H with ⟨HB, Hv, HG⟩
  imod (Rounds.fund_launch ER (rd (dataOf m)) disjoint_cells (fun g _ h => h) launchToks) $$ [Hv HG] with ⟨%κ, -, #Hinv, #Hr, Hat, Hopen, Htok⟩
  · isplitl [Hv]
    · iapply hv $$ Hv
    · iapply hu $$ HG
  ihave Hat := hat $$ Hat
  ihave Hopen := hopens $$ Hopen
  ihave Htok := hd $$ Htok
  imodintro
  iapply (bigSep_with_persistent (R := records (dataOf m) κ) (Φ := fun c => iprop(mine m c ∗ bundle m c)) fun c _ => T₀_intro m κ c)
  isplitr
  · unfold records
    isplitr; · iexact Hinv
    iexact Hr
  iapply hjoin
  isplitl [Hat]; · iexact Hat
  isplitl [Hopen]; · iexact Hopen
  isplitl [Htok] <;> iassumption

/-! ## The run -/

/-- Device `c`'s result. -/
def res (c : Dev nD) : Buf (Elt F) ((c : Thread nD τ).loc main_v3) := StableHlo.after hostOps1 (V₂ m c) (Proc.devRef .tc main_v3)

theorem end_of_ne (c : Dev nD) (b : Ref sig .tc) (h3 : b ≠ main_v3) (h2 : b ≠ main_v2) (h1 : b ≠ main_v1) :
    StableHlo.after hostOps1 (V₂ m c) (Proc.devRef .tc b) = m ((c : Thread nD τ).loc b) := by
  refine (StableHlo.after_of_forall_not_mem (b := Proc.devRef .tc b) _ _ (List.forall_iff_forall_mem.mp (by
    simp only [hostOps1, List.Forall, StableHlo.reshape_writes, Finset.mem_singleton]
    exact StableHlo.devRef_ne_of_ne h3))).trans ?_
  rw [← V₁_of_ne m c b h1]
  unfold V₂
  exact Function.update_of_ne (StableHlo.devRef_ne_of_ne h2) (outA m c) (V₁ m c)

theorem unscoped_eq : ∀ sm : SemLoc sig, sm.isScoped .tc = false → sm = .reg barS := by decide

set_option backward.isDefEq.respectTransparency.types false in
/-- From any memory whose words are balanced, with zero counters, every weakly fair execution on the eight devices terminates,
    and every final state has the arguments unchanged, each device's result at `res`, and every counter at zero. -/
theorem run_main (hG : Good (dataOf m)) : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = res m c) ∧ r.2.sem = fun _ => 0) :=
  Pipeline.θ_run_regions_kit_sems (pcfgs (F := F)) adm (pdats m) () cellOf_inj EP defs₀ 𝒱₀ L lv m ρ main (segs m hG)
    (fun c Q => by rw [main_eq m hG c])
    (by simp only [segs, Pipeline.Seg.pipes_host, Pipeline.Seg.pipes_region, Pipeline.Seg.pipes_nil]; decide)
    (O₀ := O₀ (dataOf m)) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg_pre m hG c, fun c => reg_post m hG c, fun c => ?_⟩
      show iprop(StableHlo.held (c : Thread nD τ) bufs4 (StableHlo.after hostOps1 (V₂ m c)) ∗ R' c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v3) = res m c) ∧ s.sem (barCell c) = 0)
    (hfin := fun c s' => by
      dsimp only [Tₙ]
      rw [bufs4_eq, end_of_ne m c main_arg0 (by decide) (by decide) (by decide), end_of_ne m c main_arg1 (by decide) (by decide) (by decide)]
      iintro ⟨⟨⟨H0, -, H1, H3⟩, Hb0⟩, HSI⟩
      icombine HSI H0 gives %h0
      icombine HSI H1 gives %h1
      icombine HSI H3 gives %h3
      icombine HSI Hb0 gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => (h c).1, sem_eq_zero hs fun c sm hsm => by
        obtain rfl := unscoped_eq sm hsm
        exact (h c).2⟩)

end Cert.KernelIdeal.Lookup

end
-- ==== Proof.KI.Value.lean ====
/-
  What the precondition gives the run, and the result as rows of the whole table.
-/
module

public import proofs.«01_k».proof.Proof.KI.Run
public import proofs.«01_k».proof.Proof.Pre
public import proofs.«01_k».proof.Proof.Drawn
public import Idealize.ShloMosaic.Lib.Layout
public import Idealize.ShloMosaic.Lib.StableHlo.Predicate
public import Idealize.ShloMosaic.Lib.Pipeline.Value

@[expose] public section

noncomputable section

namespace Cert.KernelIdeal.Lookup

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Cert.KernelIdeal Cert.KernelIdeal.Gen Cert.Lookup

variable {F : FTy → Type} [FloatOps F]

local notation "𝕄" => MT nD τ sig Unit (Elt F) ℕ UU ℕ

open Idealize.ShloMosaic.StableHlo (Predicate.ij Predicate.ij_eta)

variable (m : (ℓ : Loc nD τ sig) → Buf (Elt F) ℓ)

/-! ## From the precondition -/

/-- The words are rows of the table, and the devices' copies of them agree on how many each device owns. -/
theorem good_of (N : ℕ → ℕ) (hN : ∀ s : Fin 8, N s.val ≤ 384)
    (h : ∀ c : Dev nD, (∀ t : Fin 1024, ((m ((c : Thread nD τ).loc main_arg0) : S1024.Idx → BitVec 32) (Cert.Lookup.ix1 t)).toNat < 65536)
      ∧ ∀ s : Fin 8, cnt (fun t => ((m ((c : Thread nD τ).loc main_arg0) : S1024.Idx → BitVec 32) (Cert.Lookup.ix1 ⟨t % 1024, Nat.mod_lt _ (by decide)⟩)).toNat / 8192) 1024 s.val = N s.val) :
    Good (dataOf m) where
  range d t ht := (h d).1 _
  cap d := by
    have e : nOwn (dataOf m) d = N d.val := (h d).2 d
    have := hN d
    omega
  agree d s := by
    have e1 : nOwn (dataOf m) s = N s.val := (h s).2 s
    have e2 : cnt (own (dataOf m) d) 1024 s.val = N s.val := (h d).2 s
    rw [e1, e2]

theorem good (h : ∀ c : Dev nD, Pre_balanced_Kernel.fn (F := F) (m ((c : Thread nD τ).loc main_arg0)) (m ((c : Thread nD τ).loc main_arg1)) = fun _ => 1#1) :
    Good (dataOf m) := good_of m (fun _ => 128) (fun _ => by decide) fun c => pre_facts _ _ (h c)

theorem good_drawn (h : ∀ c : Dev nD, Pre_drawn_Kernel.fn (F := F) (m ((c : Thread nD τ).loc main_arg0)) (m ((c : Thread nD τ).loc main_arg1)) = fun _ => 1#1) :
    Good (dataOf m) := good_of m drawn drawn_le fun c => drawn_facts _ _ (h c)

/-! ## The result -/

theorem V₁_tab (c : Dev nD) : V₁ m c (Proc.devRef .tc main_v1)
    = shapeCast S65536x128 (m ((c : Thread nD τ).loc main_arg1) : S8192x1024.Idx → F .f32) shapeCasts_S8192x1024_S65536x128 :=
  by
  unfold V₁ hostOps0
  after_results
  rfl

theorem res_shape (c : Dev nD) : res m c = shapeCast S1024x1024 (outA m c : S8192x128.Idx → F .bf16) shapeCasts_S8192x128_S1024x1024 := by
  unfold res hostOps1
  after_results
  have e : V₂ m c (Proc.devRef .tc main_v2) = outA m c := Function.update_self _ _ _
  rw [e]
  rfl

/-- Row `t`, column `l` of device `c`'s result, in the rows of 128 lanes that the call writes. -/
theorem res_at (c : Dev nD) (t l : Fin 1024) :
    (res m c : S1024x1024.Idx → F .bf16) (Predicate.ij t l) = outv (dataOf m) c (8 * t.val + l.val / 128) (l.val % 128) := by
  have ht := t.isLt
  have hl := l.isLt
  rw [res_shape]
  exact shapeCast_apply _ _ _ (Cert.Lookup.ix2 (R := 8192) ⟨8 * t.val + l.val / 128, by omega⟩ ⟨l.val % 128, Nat.mod_lt _ (by decide)⟩) (by
    rw [Shape.rowMajor_val_two, Shape.rowMajor_val_two]
    show (8 * t.val + l.val / 128) * 128 + l.val % 128 = t.val * 1024 + l.val
    omega)

/-- Row `8 g + r`, lane `l` of a device's table is row `g`, column `128 r + l` of its block. -/
theorem tab_at (c : Dev nD) (g : Fin 8192) (l : Fin 1024) :
    tabAt (dataOf m) c (8 * g.val + l.val / 128) (l.val % 128) = (m ((c : Thread nD τ).loc main_arg1) : S8192x1024.Idx → F .f32) (Predicate.ij g l) := by
  have hg := g.isLt
  have hl := l.isLt
  show V₁ m c (Proc.devRef .tc main_v1) _ = _
  rw [V₁_tab]
  refine shapeCast_apply (s := S8192x1024) _ _ _ (Predicate.ij g l) ?_
  rw [Shape.rowMajor_val_two, Shape.rowMajor_val_two]
  show g.val * 1024 + l.val = ((8 * g.val + l.val / 128) % 65536) * 128 + l.val % 128 % 128
  omega

/-- Where every device has the same words `a` and its block of the same table `E`, each result row is the table's row that the word names. -/
theorem res_eq (hG : Good (dataOf m)) (a : S1024.Idx → BitVec 32) (E : (⟨2, ![65536, 1024]⟩ : Shape).Idx → F .f32)
    (ha : ∀ c : Dev nD, m ((c : Thread nD τ).loc main_arg0) = a)
    (hE : ∀ c : Dev nD, m ((c : Thread nD τ).loc main_arg1) = Layout.block ⟨2, ![8192, 1024]⟩ ⟨2, ![65536, 1024]⟩ 0 8 c E)
    (c : Dev nD) (t l : Fin 1024) (w : Fin 65536) (hw : (a (Cert.Lookup.ix1 t)).toNat = w.val) :
    (res m c : S1024x1024.Idx → F .bf16) (Predicate.ij t l) = FloatOps.truncf .bf16 bitsLt_bf16_f32 (E (Predicate.ij w l)) := by
  have ht := t.isLt
  have hl := l.isLt
  have hids : ∀ (d : Dev nD) (k : ℕ), (dataOf m).ids d k = a (Cert.Lookup.ix1 ⟨k % 1024, Nat.mod_lt _ (by decide)⟩) := fun d k => by
    show (m ((d : Thread nD τ).loc main_arg0) : S1024.Idx → BitVec 32) _ = _
    rw [ha d]
  have hown : ∀ d : Dev nD, own (dataOf m) d = own (dataOf m) c := fun d => funext fun k => by unfold own; rw [hids d, hids c]
  have htt : (⟨t.val % 1024, Nat.mod_lt _ (by decide)⟩ : Fin 1024) = t := Fin.ext (Nat.mod_eq_of_lt ht)
  have hid : ∀ d : Dev nD, ((dataOf m).ids d t.val).toNat = w.val := fun d => by rw [hids d, htt, hw]
  have hr : (8 * t.val + l.val / 128) / 8 = t.val := by omega
  have hm : (8 * t.val + l.val / 128) % 8 = l.val / 128 := by omega
  have hs := ownD_val hG c ht
  have ho : own (dataOf m) c t.val = w.val / 8192 := by unfold own; rw [hid c]
  rw [res_at]
  unfold outv
  rw [hr, hm]
  generalize hD : ownD (dataOf m) c t.val = s at hs
  unfold sv tr gv
  have h1 : (8 * cnt (own (dataOf m) c) t.val (own (dataOf m) c t.val) + l.val / 128) / 8 = cnt (own (dataOf m) c) t.val (own (dataOf m) c t.val) := by omega
  have h2 : (8 * cnt (own (dataOf m) c) t.val (own (dataOf m) c t.val) + l.val / 128) % 8 = l.val / 128 := by omega
  rw [h1, h2, hown s, hs, tok_cnt _ ht, hid s]
  have hg : w.val - 8192 * own (dataOf m) c t.val < 8192 := by rw [ho]; omega
  refine congrArg _ ((tab_at m s ⟨w.val - 8192 * own (dataOf m) c t.val, hg⟩ l).trans ?_)
  rw [hE s]
  show E _ = E _
  refine congrArg E (funext fun b => Fin.ext ?_)
  rw [Layout.Tiles.idx_val]
  match b with
  | ⟨0, _⟩ =>
    show s.val * 8192 + (w.val - 8192 * own (dataOf m) c t.val) = w.val
    rw [hs, ho]; omega
  | ⟨1, _⟩ => rfl

end Cert.KernelIdeal.Lookup

end
-- ==== Proof.Ref.lean ====
/- The reference's result row by row: row `t` is the table's row that word `t` names, rounded to the result's format. -/
module

public import proofs.«01_k».proof.Proof.Gen.ReferenceIdeal.Run
public import proofs.«01_k».proof.Proof.Geo
public import Idealize.ShloMosaic.Lib.Routing.Ops
public import Idealize.ShloMosaic.Lib.StableHlo.Predicate
public import Idealize.ShloMosaic.Lib.Affine

@[expose] public section

noncomputable section

namespace Cert.Lookup.Ref

open Idealize.ShloMosaic Cert.ReferenceIdeal Cert.ReferenceIdeal.Gen
open Idealize.ShloMosaic.StableHlo (Predicate.ij Predicate.ij_eta)

variable {F : FTy → Type} [FloatOps F]

/-- The reference's result of the words `a` and the table `E`. -/
def val (a : S1024.Idx → BitVec 32) (E : S65536x1024.Idx → F .f32) : S1024x1024.Idx → F .bf16 :=
  truncf .bf16 (Host.gather gather_S65536x1024_S1024x1_S1024x1024_1_0_n_n_0_1_11024 E (broadcastInDim S1024x1 ![0] bcast_S1024_S1024x1_0 (select (cmpi .slt a (broadcastInDim S1024 ![] bcast_S_S1024 (constantI S_ 32 0#32))) (addi a (broadcastInDim S1024 ![] bcast_S_S1024 (constantI S_ 32 65536#32))) a))) bitsLt_bf16_f32

theorem val_at (a : S1024.Idx → BitVec 32) (E : S65536x1024.Idx → F .f32) (t l : Fin 1024) (w : Fin 65536)
    (hw : (a (Cert.Lookup.ix1 t)).toNat = w.val) :
    val a E (Predicate.ij t l) = FloatOps.truncf .bf16 bitsLt_bf16_f32 (E (Predicate.ij w l)) := by
  have hlt := w.isLt
  have e2 : ∀ {n k : ℕ} (x : Fin n) (y : Fin k), (Predicate.ij x y : (⟨2, ![n, k]⟩ : Shape).Idx) = ValueIdx.ix2 x y := fun x y => by
    funext b
    match b with
    | ⟨0, _⟩ => rfl
    | ⟨1, _⟩ => rfl
  show FloatOps.truncf .bf16 bitsLt_bf16_f32 (Host.gather _ E _ (Predicate.ij t l)) = _
  refine congrArg _ ?_
  rw [e2 t l, e2 w l]
  refine Routing.gather_row (nb := 65536) (B := 1024) (n := 1024) gather_S65536x1024_S1024x1_S1024x1024_1_0_n_n_0_1_11024 rfl rfl rfl rfl rfl E _ t l w ?_ (by decide)
  have hx : ∀ x : S1024.Idx, (x 0).val = t.val →
      (select (cmpi .slt a (broadcastInDim S1024 ![] bcast_S_S1024 (constantI S_ 32 0#32))) (addi a (broadcastInDim S1024 ![] bcast_S_S1024 (constantI S_ 32 65536#32))) a) x
        = BitVec.ofNat 32 w.val := fun x hx => by
    rw [Cert.Lookup.ix1_eq x t hx]
    have ha : a (Cert.Lookup.ix1 t) = BitVec.ofNat 32 w.val := BitVec.eq_of_toNat_eq (by rw [hw, BitVec.toNat_ofNat]; omega)
    have hn : ¬ (IntOp.cmpi .slt (a (Cert.Lookup.ix1 t)) 0#32 = 1#1) := by
      rw [IntOp.cmpi_slt, show (0#32 : BitVec 32).toInt = 0 from by decide, BitVec.toInt_eq_toNat_cond, hw]
      split <;> omega
    show (if IntOp.cmpi .slt (a (Cert.Lookup.ix1 t)) 0#32 = 1#1 then _ else a (Cert.Lookup.ix1 t)) = _
    rw [if_neg hn, ha]
  exact hx _ rfl

end Cert.Lookup.Ref

end
-- ==== Proof.lean ====
/- The proof of the claims of this certificate: the kernel's run on the eight devices, with floats as words and as extended reals, the
   reference's run, and the comparison of their results row by row. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import proofs.«01_k».proof.Proof.Gen.Pre_drawn_Kernel
public import proofs.«01_k».proof.Proof.Gen.Pre_drawn_ReferenceIdeal
public import proofs.«01_k».proof.Proof.K.Value
public import proofs.«01_k».proof.Proof.KI.Value
public import proofs.«01_k».proof.Proof.Ref

@[expose] public section

noncomputable section

namespace Cert.Proof

open Idealize.ShloMosaic Idealize.ShloMosaic.TcCoe Idealize.SL.Sem
open Idealize.ShloMosaic.StableHlo (Predicate.ij Predicate.ij_eta)

theorem frame_kernel : Cert.quiescent_Kernel := fun m g h =>
  (θ_run _ _ _).mono (fun _ hr => ⟨fun c => ⟨(hr.1 c).1, (hr.1 c).2.1⟩, hr.2⟩) (Cert.Kernel.Lookup.run_main m g (Cert.Kernel.Lookup.good m h))

theorem frame_ideal : Cert.quiescent_KernelIdeal := fun m g h =>
  (θ_run _ _ _).mono (fun _ hr => ⟨fun c => ⟨(hr.1 c).1, (hr.1 c).2.1⟩, hr.2⟩) (Cert.KernelIdeal.Lookup.run_main m g (Cert.KernelIdeal.Lookup.good m h))

theorem frame_kernel_drawn : Cert.quiescent_Kernel_pre_drawn_Kernel := fun m g h =>
  (θ_run _ _ _).mono (fun _ hr => ⟨fun c => ⟨(hr.1 c).1, (hr.1 c).2.1⟩, hr.2⟩) (Cert.Kernel.Lookup.run_main m g (Cert.Kernel.Lookup.good_drawn m h))

theorem frame_ideal_drawn : Cert.quiescent_KernelIdeal_pre_drawn_Kernel := fun m g h =>
  (θ_run _ _ _).mono (fun _ hr => ⟨fun c => ⟨(hr.1 c).1, (hr.1 c).2.1⟩, hr.2⟩) (Cert.KernelIdeal.Lookup.run_main m g (Cert.KernelIdeal.Lookup.good_drawn m h))

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0 :=
  (θ_run _ _ _).mono (fun _ hr => ⟨fun c => (hr c).2, sem_eq_zero_of_no_sems rfl _⟩) (Cert.ReferenceIdeal.Value.run m g)

/-- Where the kernel's arguments are parts of the reference's, every device's result is the reference's. -/
theorem same (m : (ℓ : Loc Cert.KernelIdeal.nD Cert.KernelIdeal.τ Cert.KernelIdeal.sig) → Buf (Elt Ideal) ℓ)
    (hG : Cert.KernelIdeal.Lookup.Good (Cert.KernelIdeal.Lookup.dataOf m)) (a : Cert.KernelIdeal.S1024.Idx → BitVec 32) (E : (⟨2, ![65536, 1024]⟩ : Shape).Idx → Ideal .f32)
    (ha : ∀ c : Dev Cert.KernelIdeal.nD, m ((c.tc : Thread Cert.KernelIdeal.nD Cert.KernelIdeal.τ).loc Cert.KernelIdeal.main_arg0) = a)
    (hE : ∀ c : Dev Cert.KernelIdeal.nD, m ((c.tc : Thread Cert.KernelIdeal.nD Cert.KernelIdeal.τ).loc Cert.KernelIdeal.main_arg1)
      = Layout.block ⟨2, ![8192, 1024]⟩ ⟨2, ![65536, 1024]⟩ 0 8 c E) (c : Dev Cert.KernelIdeal.nD) :
    (Cert.KernelIdeal.Lookup.res m c : Cert.KernelIdeal.S1024x1024.Idx → Ideal .bf16) = Cert.Lookup.Ref.val a E := by
  refine funext fun (x : (⟨2, ![1024, 1024]⟩ : Shape).Idx) => ?_
  obtain ⟨t, l, rfl⟩ : ∃ t l : Fin 1024, x = Predicate.ij t l := ⟨x 0, x 1, (Predicate.ij_eta x).symm⟩
  have hr : (a (Cert.Lookup.ix1 t)).toNat < 65536 := by
    have e : ((m ((c.tc : Thread Cert.KernelIdeal.nD Cert.KernelIdeal.τ).loc Cert.KernelIdeal.main_arg0) : Cert.KernelIdeal.S1024.Idx → BitVec 32)
      (Cert.Lookup.ix1 ⟨t.val % 1024, Nat.mod_lt _ (by decide)⟩)).toNat < 65536 := hG.range c t.val t.isLt
    have e' : (m ((c.tc : Thread Cert.KernelIdeal.nD Cert.KernelIdeal.τ).loc Cert.KernelIdeal.main_arg0) : Cert.KernelIdeal.S1024.Idx → BitVec 32) = a := ha c
    have ht : (⟨t.val % 1024, Nat.mod_lt _ (by decide)⟩ : Fin 1024) = t := Fin.ext (Nat.mod_eq_of_lt t.isLt)
    rw [e', ht] at e; exact e
  exact (Cert.KernelIdeal.Lookup.res_eq m hG a E ha hE c t l ⟨_, hr⟩ rfl).trans
    (Cert.Lookup.Ref.val_at a E t l ⟨_, hr⟩ rfl).symm

theorem value : Cert.algebraic_KernelIdeal_ReferenceIdeal := fun m g m' g' h hio =>
  ⟨Cert.Lookup.Ref.val (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => by
      refine ⟨(hr.1 c).2.2.trans ?_, (hr.1 c).1, (hr.1 c).2.1⟩
      exact same m (Cert.KernelIdeal.Lookup.good m h) _ _ (fun c => (hio c).1) (fun c => (hio c).2) c)
      (Cert.KernelIdeal.Lookup.run_main m g (Cert.KernelIdeal.Lookup.good m h)),
    (θ_run _ _ _).mono (fun _ hr => hr 0) (Cert.ReferenceIdeal.Value.run m' g')⟩

theorem value_drawn : Cert.algebraic_KernelIdeal_ReferenceIdeal_pre_drawn_Kernel := fun m g m' g' h hio =>
  ⟨Cert.Lookup.Ref.val (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => by
      refine ⟨(hr.1 c).2.2.trans ?_, (hr.1 c).1, (hr.1 c).2.1⟩
      exact same m (Cert.KernelIdeal.Lookup.good_drawn m h) _ _ (fun c => (hio c).1) (fun c => (hio c).2) c)
      (Cert.KernelIdeal.Lookup.run_main m g (Cert.KernelIdeal.Lookup.good_drawn m h)),
    (θ_run _ _ _).mono (fun _ hr => hr 0) (Cert.ReferenceIdeal.Value.run m' g')⟩

theorem claim : Cert.Claim :=
  ⟨Cert.Kernel.Gen.facts, Cert.KernelIdeal.Gen.facts, Cert.ReferenceIdeal.Gen.facts, Cert.Pre_balanced_Kernel.Gen.facts, Cert.Pre_drawn_Kernel.Gen.facts,
    Cert.Pre_balanced_ReferenceIdeal.Gen.facts, Cert.Pre_drawn_ReferenceIdeal.Gen.facts,
    frame_kernel, frame_kernel_drawn, frame_ideal, frame_ideal_drawn, fun m g _ => frame_reference m g, fun m g _ => frame_reference m g,
    fun m g _ => frame_reference m g, trivial, value, value_drawn⟩

end Cert.Proof

end
